-- ==== Defs.lean ====
def Pre_KernelIdeal (m : (ℓ : Loc Cert.KernelIdeal.nD Cert.KernelIdeal.τ Cert.KernelIdeal.sig) → Buf (Elt Ideal) ℓ) : Prop :=
  True

def Pre_KernelIdeal_z_finite [hPre_z_finite : Cert.Pre_z_finite.Facts] (m : (ℓ : Loc Cert.KernelIdeal.nD Cert.KernelIdeal.τ Cert.KernelIdeal.sig) → Buf (Elt Ideal) ℓ) : Prop :=
  ∀ c : Dev Cert.KernelIdeal.nD,
    (Cert.Pre_z_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_z_finite [hPre_z_finite : Cert.Pre_z_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_z_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_z_finite [hKernelIdeal : Cert.KernelIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_z_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_z_finite [hReferenceIdeal : Cert.ReferenceIdeal.Facts] [hPre_z_finite : Cert.Pre_z_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_z_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_z_finite [hKernelIdeal : Cert.KernelIdeal.Facts] [hReferenceIdeal : Cert.ReferenceIdeal.Facts] [hPre_z_finite : Cert.Pre_z_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_z_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_z_finite : Cert.Pre_z_finite.Facts),
    quiescent_KernelIdeal (hKernelIdeal := hKernelIdeal)
    ∧ quiescent_KernelIdeal_pre_z_finite (hKernelIdeal := hKernelIdeal) (hPre_z_finite := hPre_z_finite)
    ∧ quiescent_ReferenceIdeal (hReferenceIdeal := hReferenceIdeal)
    ∧ quiescent_ReferenceIdeal_pre_z_finite (hReferenceIdeal := hReferenceIdeal) (hPre_z_finite := hPre_z_finite)
    ∧ algebraic_KernelIdeal_ReferenceIdeal_pre_z_finite (hKernelIdeal := hKernelIdeal) (hReferenceIdeal := hReferenceIdeal) (hPre_z_finite := hPre_z_finite)
-- ==== Pre_z_finite.lean ====
abbrev S16x576x64 : Shape := ⟨3, ![16, 576, 64]⟩
abbrev S1024x64 : Shape := ⟨2, ![1024, 64]⟩
abbrev S_ : Shape := ⟨0, ![]⟩

class Facts : Prop where
  bcast_S_S16x576x64 : S_.BroadcastsInDim S16x576x64 (![] : Fin 0 → Fin S16x576x64.rank)
  reducesTo_S16x576x64_S_d0_1_2 : S16x576x64.ReducesTo [0, 1, 2] S_
  h_S_ : 0 < S_.numel

variable [Facts]

def fn {F : FTy → Type} [FloatOps F] (main_arg0 : FVec F S16x576x64 .f32) (main_arg1 : FVec F S1024x64 .f32) : IVec S_ 1 :=
  let main_v0 : FVec F S16x576x64 .f32 := Host.absf main_arg0
  let main_cst : FVec F S_ .f32 := constant S_ .f32 0x7F800000#32
  let main_v1 : FVec F S16x576x64 .f32 := broadcastInDim S16x576x64 ![] bcast_S_S16x576x64 main_cst
  let main_v2 : IVec S16x576x64 1 := cmpf .olt main_v0 main_v1
  let main_c : IVec S_ 1 := constantI S_ 1 1#1
  let main_v3 : IVec S_ 1 := (fun x v => Host.reduce IntOp.andi x v reducesTo_S16x576x64_S_d0_1_2 h_S_) main_v2 main_c
  main_v3
-- ==== KernelIdeal.lean ====
abbrev S16x576x64 : Shape := ⟨3, ![16, 576, 64]⟩
abbrev S1024x64 : Shape := ⟨2, ![1024, 64]⟩
abbrev S9216x64 : Shape := ⟨2, ![9216, 64]⟩
abbrev S9216 : Shape := ⟨1, ![9216]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S8x512 : Shape := ⟨2, ![8, 512]⟩
abbrev S1x512 : Shape := ⟨2, ![1, 512]⟩
abbrev S8x1 : Shape := ⟨2, ![8, 1]⟩
abbrev S8 : Shape := ⟨1, ![8]⟩
abbrev S_ : Shape := ⟨0, ![]⟩
abbrev S1024x128 : Shape := ⟨2, ![1024, 128]⟩
abbrev S9216x128 : Shape := ⟨2, ![9216, 128]⟩
abbrev S288 : Shape := ⟨1, ![288]⟩
abbrev S288x128 : Shape := ⟨2, ![288, 128]⟩
abbrev S16x576 : Shape := ⟨2, ![16, 576]⟩

abbrev nBuf : Table → Nat
  | .hbm => 11
  | .local .tc .vmem => 5
  | .local .scVector .vmem => 2
  | _ => 0

abbrev bufTy : (tb : Table) → Fin (nBuf tb) → BufTy
  | .hbm, ⟨0, _⟩ => ⟨S16x576x64, .f32⟩
  | .hbm, ⟨1, _⟩ => ⟨S1024x64, .f32⟩
  | .hbm, ⟨2, _⟩ => ⟨S9216x64, .f32⟩
  | .hbm, ⟨3, _⟩ => ⟨S9216, .i32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S9216x128, .f32⟩
  | .hbm, ⟨8, _⟩ => ⟨S9216x64, .f32⟩
  | .hbm, ⟨9, _⟩ => ⟨S16x576x64, .f32⟩
  | .hbm, ⟨10, _⟩ => ⟨S16x576, .i32⟩
  | .local .tc .vmem, ⟨0, _⟩ => ⟨S1024x64, .f32⟩
  | .local .tc .vmem, ⟨1, _⟩ => ⟨S1024x64, .f32⟩
  | .local .tc .vmem, ⟨2, _⟩ => ⟨S1024x64, .f32⟩
  | .local .tc .vmem, ⟨3, _⟩ => ⟨S1024, .i32⟩
  | .local .tc .vmem, ⟨4, _⟩ => ⟨S1024, .i32⟩
  | .local .scVector .vmem, ⟨0, _⟩ => ⟨S288, .i32⟩
  | .local .scVector .vmem, ⟨1, _⟩ => ⟨S288x128, .f32⟩
  | _, _ => ⟨S16x576x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v2_scv : Ref sig .scVector := ⟨.hbm, 6, rfl⟩
abbrev main_v1_scv : Ref sig .scVector := ⟨.hbm, 3, rfl⟩
abbrev main_v3_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v2 : BitVec 32 := Scalar.muli v1 c288_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v2 : BitVec 32 := Scalar.muli v1 c288_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x576x64 : Shape := ⟨3, ![16, 576, 64]⟩
abbrev S1024x64 : Shape := ⟨2, ![1024, 64]⟩
abbrev S9216x64 : Shape := ⟨2, ![9216, 64]⟩
abbrev S_ : Shape := ⟨0, ![]⟩
abbrev S9216 : Shape := ⟨1, ![9216]⟩
abbrev S9216x1 : Shape := ⟨2, ![9216, 1]⟩
abbrev S1024 : Shape := ⟨1, ![1024]⟩
abbrev S1x1024 : Shape := ⟨2, ![1, 1024]⟩
abbrev S9216x1024 : Shape := ⟨2, ![9216, 1024]⟩
abbrev S64x1024 : Shape := ⟨2, ![64, 1024]⟩
abbrev S1 : Shape := ⟨1, ![1]⟩
abbrev S1x1 : Shape := ⟨2, ![1, 1]⟩
abbrev S16x576 : Shape := ⟨2, ![16, 576]⟩

abbrev nBuf : Space → Nat
  | .hbm => 57
  | .vmem => 0
  | .smem => 0
  | _ => 0

abbrev bufTy : (tb : Table) → Fin (tcTables nBuf tb) → BufTy
  | .hbm, ⟨0, _⟩ => ⟨S16x576x64, .f32⟩
  | .hbm, ⟨1, _⟩ => ⟨S1024x64, .f32⟩
  | .hbm, ⟨2, _⟩ => ⟨S9216x64, .f32⟩
  | .hbm, ⟨3, _⟩ => ⟨S9216x64, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S9216x1024, .f32⟩
  | .hbm, ⟨12, _⟩ => ⟨S9216x1024, .f32⟩
  | .hbm, ⟨13, _⟩ => ⟨S9216x1024, .f32⟩
  | .hbm, ⟨14, _⟩ => ⟨S64x1024, .f32⟩
  | .hbm, ⟨15, _⟩ => ⟨S9216x1024, .f32⟩
  | .hbm, ⟨16, _⟩ => ⟨S_, .f32⟩
  | .hbm, ⟨17, _⟩ => ⟨S9216x1024, .f32⟩
  | .hbm, ⟨18, _⟩ => ⟨S9216x1024, .f32⟩
  | .hbm, ⟨19, _⟩ => ⟨S9216x1024, .f32⟩
  | .hbm, ⟨20, _⟩ => ⟨S_, .f32⟩
  | .hbm, ⟨21, _⟩ => ⟨S_, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S9216x1024, .i32⟩
  | .hbm, ⟨26, _⟩ => ⟨S_, .f32⟩
  | .hbm, ⟨27, _⟩ => ⟨S_, .i32⟩
  | .hbm, ⟨28, _⟩ => ⟨S9216, .f32⟩
  | .hbm, ⟨29, _⟩ => ⟨S9216, .i32⟩
  | .hbm, ⟨30, _⟩ => ⟨S_, .i32⟩
  | .hbm, ⟨31, _⟩ => ⟨S9216, .i32⟩
  | .hbm, ⟨32, _⟩ => ⟨S9216, .i1⟩
  | .hbm, ⟨33, _⟩ => ⟨S_, .i32⟩
  | .hbm, ⟨34, _⟩ => ⟨S9216, .i32⟩
  | .hbm, ⟨35, _⟩ => ⟨S9216, .i32⟩
  | .hbm, ⟨36, _⟩ => ⟨S9216, .i32⟩
  | .hbm, ⟨37, _⟩ => ⟨S9216x1, .i32⟩
  | .hbm, ⟨38, _⟩ => ⟨S1, .i32⟩
  | .hbm, ⟨39, _⟩ => ⟨S_, .i32⟩
  | .hbm, ⟨40, _⟩ => ⟨S9216x1, .i32⟩
  | .hbm, ⟨41, _⟩ => ⟨S9216x1, .i1⟩
  | .hbm, ⟨42, _⟩ => ⟨S1x1, .i32⟩
  | .hbm, ⟨43, _⟩ => ⟨S9216x1, .i32⟩
  | .hbm, ⟨44, _⟩ => ⟨S9216x1, .i1⟩
  | .hbm, ⟨45, _⟩ => ⟨S9216x1, .i1⟩
  | .hbm, ⟨46, _⟩ => ⟨S_, .i1⟩
  | .hbm, ⟨47, _⟩ => ⟨S9216, .i1⟩
  | .hbm, ⟨48, _⟩ => ⟨S9216x64, .f32⟩
  | .hbm, ⟨49, _⟩ => ⟨S9216x64, .i1⟩
  | .hbm, ⟨50, _⟩ => ⟨S_, .f32⟩
  | .hbm, ⟨51, _⟩ => ⟨S9216x64, .f32⟩
  | .hbm, ⟨52, _⟩ => ⟨S9216x64, .f32⟩
  | .hbm, ⟨53, _⟩ => ⟨S16x576x64, .f32⟩
  | .hbm, ⟨54, _⟩ => ⟨S16x576x64, .f32⟩
  | .hbm, ⟨55, _⟩ => ⟨S16x576x64, .f32⟩
  | .hbm, ⟨56, _⟩ => ⟨S16x576, .i32⟩
  | _, _ => ⟨S16x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_call1_v0 : Ref sig .tc := ⟨.hbm, 25, rfl⟩
abbrev main_call1_cst : Ref sig .tc := ⟨.hbm, 26, rfl⟩
abbrev main_call1_c : Ref sig .tc := ⟨.hbm, 27, rfl⟩
abbrev main_call1_v1_0 : Ref sig .tc := ⟨.hbm, 28, rfl⟩
abbrev main_v17 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_call2_cst : Ref sig .tc := ⟨.hbm, 50, rfl⟩
abbrev main_call2_v15 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩

abbrev nD : Nat := 1
abbrev τ : Topo := Topo.v7x

variable {F : FTy → Type} [FloatOps F]
-- ==== Proof.Setup.lean ====
/-
  The program as the SparseCore launch theorem sees it, and the buffers its two kernels share.

  The kernel has a TensorCore call, which writes a code number for each of 9216 rows, and a SparseCore call, in which each of 32
  tiles fetches 288 of these numbers, gathers the rows of the padded codebook that they name, and writes the rows out. This module
  fixes the resource algebra of the proof (the launch handshakes, the TensorCore pipeline's cells, the transfers' counters), the
  locations, and the 32 pieces in which the tiles hold the index array and the result.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Launch

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program, its labels and its launch configuration -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance : (EP (F := F)).LandsIn (upEmb : UEmb _ 𝕄) := inferInstance

/-! ## The locations -/

/-- The code numbers, the padded codebook, the gathered rows. -/
abbrev iLoc (d : Dev nD) : Loc nD τ sig := (SparseCore.T d).loc main_v1
abbrev xLoc (d : Dev nD) : Loc nD τ sig := (SparseCore.T d).loc main_v2
abbrev oLoc (d : Dev nD) : Loc nD τ sig := (SparseCore.T d).loc main_v3

/-! ## The 32 pieces -/

theorem idiv : 32 ∣ S9216.size 0 := ⟨288, rfl⟩
theorem odiv : 32 ∣ S9216x128.size 0 := ⟨288, rfl⟩
/-- Words `288 w` to `288 w + 287` of the code numbers; rows `288 w` to `288 w + 287` of the result. -/
abbrev iPart (w : Fin 32) : Rect S9216 := Rect.part (s := S9216) (a₀ := 0) idiv w
abbrev oPart (w : Fin 32) : Rect S9216x128 := Rect.part (s := S9216x128) (a₀ := 0) odiv w
/-- Tile `w`'s read share of the padded codebook. -/
abbrev xq (w : Fin 32) : PosShare TreeShare := pieceOf fullShare 32 (by decide) w

theorem iPart_off (w : Fin 32) : (iPart w).off = ![288 * w.val] := by
  funext a; match a with | 0 => simp [iPart, Rect.part, Rect.block, Rect.unit, Shape.partIx, Shape.partSize]; omega

theorem iPts_parts (d : Dev nD) (f : Buf (Elt F) (iLoc d)) :
    (iLoc d ↦{fullShare} f : sProp 𝕄) = bigSep Finset.univ fun w : Fin 32 => iLoc d ↦[(iPart w).set]{fullShare} f := by
  rw [← pointsTo_biUnion Finset.univ (ℓ := iLoc d) (fun w => (iPart w).set) (fun _ _ _ _ h => Rect.part_disjoint idiv h)]
  exact congrArg (fun s => (iLoc d ↦[s]{fullShare} f : sProp 𝕄)) (Rect.biUnion_part idiv).symm

theorem oPts_parts (d : Dev nD) (f : Buf (Elt F) (oLoc d)) :
    (oLoc d ↦{fullShare} f : sProp 𝕄) = bigSep Finset.univ fun w : Fin 32 => oLoc d ↦[(oPart w).set]{fullShare} f := by
  rw [← pointsTo_biUnion Finset.univ (ℓ := oLoc d) (fun w => (oPart w).set) (fun _ _ _ _ h => Rect.part_disjoint odiv h)]
  exact congrArg (fun s => (oLoc d ↦[s]{fullShare} f : sProp 𝕄)) (Rect.biUnion_part odiv).symm

theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

/-- Tile `(c, i)` — SparseCore `c`, subcore `i` — works on piece `2 i + c`. -/
def tileEquiv : Fin 2 × Fin 16 ≃ Fin 32 := (Equiv.prodComm _ _).trans finProdFinEquiv
abbrev wid (c : Fin 2) (i : Fin 16) : Fin 32 := tileEquiv (c, i)
theorem wid_val (c : Fin 2) (i : Fin 16) : (wid c i).val = c.val + 2 * i.val := rfl

/-- A conjunction over the pieces is one over the tiles. -/
theorem bigSep_tiles (Φ : Fin 32 → sProp 𝕄) :
    bigSep Finset.univ Φ = bigSep Finset.univ fun c : Fin 2 => bigSep Finset.univ fun i : Fin 16 => Φ (wid c i) := by
  rw [bigSep_univ_equiv tileEquiv Φ, bigSep_univ_prod]

end Cert.KernelIdeal.Run

end
-- ==== Proof.Body.lean ====
/-
  The TensorCore kernel's body, written short.

  The printed body works out, for a block of 1024 rows, 1024 distances a row, in 128 groups of 8 rows, each group in two halves of
  512 codes. Here one group is a function of its number (`group`), the block's result is the concatenation of the 128 groups
  (`blockIdx`), and the printed body is shown to be two loads, this function and one store.
-/
module

public import proofs.«01_k».proof.Proof.Gen.KernelIdeal

@[expose] public section

noncomputable section

namespace Cert.KernelIdeal.Body

open Idealize.ShloMosaic Idealize.SL.Sem
open Cert.KernelIdeal Cert.KernelIdeal.Facts₀ Cert.KernelIdeal.Facts

variable {F : FTy → Type} [FloatOps F]
variable [Cert.KernelIdeal.Facts]

/-- Rows `8 g` to `8 g + 7` of a column of 1024 rows. -/
theorem slices_col (g : Fin 128) : S1024x1.Slices ![8 * g.val, 0] S8x1 :=
  ⟨rfl, fun a => by have := g.isLt; fin_cases a <;> simp [S1024x1, S8x1] <;> omega⟩

/-- Rows `8 g` to `8 g + 7`, columns `o` to `o + 511`, of a square of 1024. -/
theorem slices_half (g : Fin 128) (o : Nat) (ho : o ≤ 512) : S1024x1024.Slices ![8 * g.val, o] S8x512 :=
  ⟨rfl, fun a => by have := g.isLt; fin_cases a <;> simp [S1024x1024, S8x512] <;> omega⟩

/-- The squared lengths of a block's rows, as a column. -/
def rowSq (z : FVec F S1024x64 .f32) : FVec F S1024x1 .f32 :=
  shapeCast S1024x1 (multiReduction .add [1] S1024 (mulf z z) 0x00000000#32 reduces_S1024x64_S1024 (.inl rfl) rfl) shapeCasts_S1024_S1024x1

/-- The squared lengths of the codes, as a row. -/
def codeSq (c : FVec F S1024x64 .f32) : FVec F S1x1024 .f32 :=
  shapeCast S1x1024 (multiReduction .add [1] S1024 (mulf c c) 0x00000000#32 reduces_S1024x64_S1024 (.inl rfl) rfl) shapeCasts_S1024_S1x1024

/-- The products of the doubled rows with the codes. -/
def prods (z c : FVec F S1024x64 .f32) : FVec F S1024x1024 .f32 :=
  matmul dot_S1024x64_S1024x64_S1024x1024_1_1_0_0_n_n none (mulf (broadcast S1024x64 (Scalar.ofBits .f32 0x40000000#32)) z) c (constant S1024x1024 .f32 0x00000000#32)

/-- The code numbers of one half, as floats. -/
def nums : FVec F S8x512 .f32 := sitofp .f32 (iota .tc S8x512 32 [1] iota_S8x512_d1_w32)

/-- The clipped squared distances of 8 rows to 512 codes. -/
def dist (x2 : FVec F S8x1 .f32) (c2 : FVec F S1x512 .f32) (s : FVec F S8x512 .f32) : FVec F S8x512 .f32 :=
  maximumf (subf (addf (broadcastTo S8x512 x2 broadcasts_S8x1_S8x512) (broadcastTo S8x512 c2 broadcasts_S1x512_S8x512)) s)
    (broadcast S8x512 (Scalar.ofBits .f32 0x00000000#32))

/-- The least entry of each row. -/
def rowMin (d : FVec F S8x512 .f32) : FVec F S8x1 .f32 :=
  shapeCast S8x1 (multiReduction .minimumf [1] S8 d 0x7F800000#32 reduces_S8x512_S8 (.inl rfl) rfl) shapeCasts_S8_S8x1

/-- The least code number at which a row's least entry stands. -/
def rowArg (d : FVec F S8x512 .f32) : FVec F S8x1 .f32 :=
  rowMin (select (cmpf .oeq d (broadcastTo S8x512 (rowMin d) broadcasts_S8x1_S8x512)) nums (broadcast S8x512 (Scalar.ofBits .f32 0x44800000#32)))

/-- The choice between the halves, as code numbers. -/
def choose (da db : FVec F S8x512 .f32) : IVec S8 32 :=
  fptosi 32 (shapeCast S8 (select (cmpf .ole (rowMin da) (rowMin db)) (rowArg da)
    (addf (rowArg db) (broadcast S8x1 (Scalar.ofBits .f32 0x44000000#32)))) shapeCasts_S8x1_S8)

/-- The distances of group `g`'s rows to the first half of the codes. -/
def distA (z c : FVec F S1024x64 .f32) (g : Fin 128) : FVec F S8x512 .f32 :=
  dist (extractStridedSlice S8x1 ![8 * g.val, 0] (rowSq z) (slices_col g))
    (extractStridedSlice S1x512 ![0, 0] (codeSq c) slices_S1x1024_o0_0_S1x512)
    (extractStridedSlice S8x512 ![8 * g.val, 0] (prods z c) (slices_half g 0 (by omega)))

/-- The distances of group `g`'s rows to the second half of the codes. -/
def distB (z c : FVec F S1024x64 .f32) (g : Fin 128) : FVec F S8x512 .f32 :=
  dist (extractStridedSlice S8x1 ![8 * g.val, 0] (rowSq z) (slices_col g))
    (extractStridedSlice S1x512 ![0, 512] (codeSq c) slices_S1x1024_o0_512_S1x512)
    (extractStridedSlice S8x512 ![8 * g.val, 512] (prods z c) (slices_half g 512 (by omega)))

/-- The code numbers of group `g`'s 8 rows. -/
def group (z c : FVec F S1024x64 .f32) (g : Fin 128) : IVec S8 32 := choose (distA z c g) (distB z c g)

theorem concatenates_groups (f : Fin 128 → IVec S8 32) :
    Shape.Concatenates ((List.ofFn fun g : Fin 128 => (⟨S8, f g⟩ : (s : Shape) × IVec s 32)).map (·.1)) S1024 0 :=
  concatenates_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S8_S1024_d0

/-- The code numbers of a block's 1024 rows. -/
def blockIdx (z c : FVec F S1024x64 .f32) : IVec S1024 32 :=
  concatenate S1024 0 (List.ofFn fun g : Fin 128 => (⟨S8, group z c g⟩ : (s : Shape) × IVec s 32)) (concatenates_groups (group z c))

/-- The kernel's body, short: load the block and the codes, store the code numbers. -/
def bodyShort (arg1 arg2 : Memref sig .tc .vmem S1024x64 .f32) (arg3 : Memref sig .tc .vmem S1024 .i32) :
    Prog (TpuEff nD τ sig (Elt F) Λ₀ .tc) PUnit := do
  let v0 : Vec F S1024x64 .f32 ← Prog.lift (.load arg1 (Rect.unit (s := S1024x64) ![0, 0] S1024x64.size inb_S1024x64_S1024x64_0_0).toLoadRect (View.loadsAt_vmem h_S1024x64))
  let v2 : Vec F S1024x64 .f32 ← Prog.lift (.load arg2 (Rect.unit (s := S1024x64) ![0, 0] S1024x64.size inb_S1024x64_S1024x64_0_0).toLoadRect (View.loadsAt_vmem h_S1024x64))
  let _v : Vec F S1024 .i32 ← Prog.lift (.load arg3 (Rect.unit (s := S1024) ![0] S1024.size inb_S1024_S1024_0).toLoadRect (View.loadsAt_vmem h_S1024))
  Prog.lift (.store arg3 (Rect.unit (s := S1024) ![0] S1024.size inb_S1024_S1024_0)
    (blockIdx (shapeCast S1024x64 v0 shapeCasts_S1024x64_S1024x64 : FVec F S1024x64 .f32) v2) Finset.univ (View.stores_vmem_bits_univ h_S1024 rfl) (.inl rfl))
  pure ⟨⟩

set_option maxRecDepth 65536 in
/-- The printed body is the short one: by unfolding. -/
theorem body_eq (i : grid0.Coords) (arg1 : Memref sig .tc .vmem S1024x64 .f32) (harg1 : arg1.IsWhole) (arg2 : Memref sig .tc .vmem S1024x64 .f32)
    (harg2 : arg2.IsWhole) (arg3 : Memref sig .tc .vmem S1024 .i32) (harg3 : arg3.IsWhole) :
    cc0__dist_argmin_body (F := F) i arg1 harg1 arg2 harg2 arg3 harg3 = bodyShort arg1 arg2 arg3 := rfl

end Cert.KernelIdeal.Body

end
-- ==== Proof.Region.lean ====
/-
  The TensorCore call: its pipeline's proof data, what its body leaves at each grid point, what its output array holds at the end.

  The grid has nine points; point `t` stages rows `1024 t` to `1024 t + 1023` of the vectors, all of the codebook, and writes the
  nearest codes' numbers of those rows to words `1024 t` to `1024 t + 1023` of the output.
-/
module

public import proofs.«01_k».proof.Proof.Setup
public import proofs.«01_k».proof.Proof.Body
public import proofs.«01_k».proof.Proof.Gen.KernelIdeal.Points
public import Idealize.ShloMosaic.Lib.Pipeline.Regions
public import Idealize.ShloMosaic.Lib.Pipeline.FrameTail
public import Idealize.ShloMosaic.Lib.Pipeline.Value
public import Idealize.ShloMosaic.Lib.VecWindow
public import Idealize.ShloMosaic.Lib.ValueIdx

@[expose] public section

noncomputable section

namespace Cert.KernelIdeal.Run

open Cert.KernelIdeal Cert.KernelIdeal.Gen Cert.KernelIdeal.Body

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig (HIx 1) (Elt F) ℕ UU ℕ

/-- From the two inputs' staging buffers at `X1` and `X2` and the output's at anything, the body leaves the inputs' as they were and
    the output's at the code numbers of the block `X1` in the codebook `X2`. -/
theorem bodyRun (c : Dev nD) (i : grid0.Coords) (M1 : Memref sig .tc .vmem S1024x64 .f32) (h1 : M1.IsWhole)
    (M2 : Memref sig .tc .vmem S1024x64 .f32) (h2 : M2.IsWhole) (M3 : Memref sig .tc .vmem S1024 .i32) (h3 : M3.IsWhole)
    (X1 X2 : S1024x64.Idx → Elt F .f32) (X3 : S1024.Idx → Elt F .i32) (Q : PUnit → sProp 𝕄) :
    iprop((owns (c : Thread nD τ) M1 fullShare X1 : sProp 𝕄) ∗ owns (c : Thread nD τ) M2 fullShare X2 ∗ owns (c : Thread nD τ) M3 fullShare X3
      ∗ (iprop(owns (c : Thread nD τ) M1 fullShare X1 ∗ owns (c : Thread nD τ) M2 fullShare X2
          ∗ owns (c : Thread nD τ) M3 fullShare (blockIdx (F := F) X1 X2)) -∗ Q ⟨⟩))
    ⊢ wp frame (wpE (defs₀ (F := F)) 𝒱₀ (c : Thread nD τ) none) Set.univ (cc0__dist_argmin_body (F := F) i M1 h1 M2 h2 M3 h3) Q := by
  rw [body_eq]; unfold bodyShort owns
  iintro ⟨⟨%f1, %e1, H1⟩, ⟨%f2, %e2, H2⟩, ⟨%f3, %e3, H3⟩, Hk⟩
  subst e1 e2 e3
  sl_exec!
  sl_step
  iapply Hk
  isplitl [H1]
  · iexists f1; isplitr; · ipureintro; rfl
    iexact H1
  isplitl [H2]
  · iexists f2; isplitr; · ipureintro; rfl
    iexact H2
  iexists _; isplitr; swap; · iexact H3
  ipureintro
  sl_unfold_words
  rw [View.read_writes_full, View.readAt_full, View.readAt_full, shapeCast_self]

/-! ## The proof data of the pipeline -/

variable (V : (c : Dev nD) → (b : Ref sig .tc) → Buf (Elt F) ((c : Thread nD τ).loc b))

/-- What the fetches stage at point `t`: the vectors' block, the codebook. -/
abbrev stg0 (c : Dev nD) (t : Fin cfg0.N) : S1024x64.Idx → Elt F .f32 := ((cfg0.win 0).blk t).view.read (Elt F) (V c main_v0)
abbrev stg1 (c : Dev nD) (t : Fin cfg0.N) : S1024x64.Idx → Elt F .f32 := ((cfg0.win 1).blk t).view.read (Elt F) (V c main_arg1)

/-- The proof data: the arrays at the entry's contents `V`; after the body the inputs' staging buffers as fetched and the output's at
    the block's code numbers; what the TensorCore owes the handshakes, throughout; the waits recorded of the lowest level only. -/
def dats (_ : Fin 1) (c : Dev nD) : Dat τ (Elt F) (HIx 1) ℕ UU ℕ cfg0 c where
  A w := V c (Pipeline.arrRef spec0 w)
  after w t := match w with
    | ⟨0, _⟩ => stg0 V c t
    | ⟨1, _⟩ => stg1 V c t
    | ⟨2, _⟩ => blockIdx (F := F) (stg0 V c t) (stg1 V c t)
  Φ _ := iprop(emp)
  q _ := fullShare
  owed _ := (K (F := F)).Otc c 0
  recorded _ := {p | (K (F := F)).lev ((c : Thread nD τ), p.1) p.2 ≤ 0}

theorem A_eq (c : Dev nD) (w : Fin cfg0.W) : (dats V 0 c).A w = V c (Pipeline.arrRef spec0 w) := by dsimp only [dats]

/-- The inputs' staging buffers hold the fetched blocks whenever the body runs. -/
theorem before_0 (c : Dev nD) (t : Fin cfg0.N) (d) : (dats V 0 c).before 0 t d = stg0 V c t :=
  (dats V 0 c).before_fetched 0 t (fetch0_0 t) d
theorem before_1 (c : Dev nD) (t : Fin cfg0.N) (d) : (dats V 0 c).before 1 t d = stg1 V c t :=
  (dats V 0 c).before_in_eq_fetched 1 rfl (fun _ => rfl) (fun _ _ _ => rfl) (fun _ => rfl) t d

theorem body_obligation (c : Dev nD) : BodyObligation (dats V 0 c) (defs₀ (F := F)) 𝒱₀ (none : HIx 1) Set.univ := fun t => by
  rw [bigSep_W0, bigSep_W0]
  unfold Dat.owesAt Pipeline.owesWithin
  iintro ⟨-, HO, ⟨%d0, H0⟩, ⟨%d1, H1⟩, ⟨%d2, H2⟩⟩
  rw [before_0, before_1]
  iapply (bodyRun c (grid0.coords t) _ _ _ _ _ _ (stg0 V c t) (stg1 V c t) _)
  isplitl [H0]; · iexact H0
  isplitl [H1]; · iexact H1
  isplitl [H2]; · iexact H2
  iintro ⟨H0, H1, H2⟩
  isplitr; · iempintro
  isplitl [HO]; · iexact HO
  isplitl [H0]; · iexact H0
  isplitl [H1]; · iexact H1
  iexact H2

/-! ## What the output array holds at the end -/

/-- Rows `1024 t` to `1024 t + 1023`. -/
def rowsAt (z : S9216x64.Idx → Elt F .f32) (t : Fin 9) : S1024x64.Idx → Elt F .f32 := fun x =>
  z (fun | 0 => ((⟨1024 * t.val + (x 0).val, by have h1 := t.isLt; have h2 : (x 0).val < 1024 := (x 0).isLt; omega⟩ : Fin 9216)) | 1 => x 1)

/-- The code numbers of all vectors, block by block. -/
def codeNums (z : S9216x64.Idx → Elt F .f32) (cb : S1024x64.Idx → Elt F .f32) : S9216.Idx → BitVec 32 := fun j =>
  blockIdx (F := F) (rowsAt z ⟨(j 0).val / 1024, by have h : (j 0).val < 9216 := (j 0).isLt; omega⟩) cb
    (fun | 0 => (⟨(j 0).val % 1024, Nat.mod_lt _ (by decide)⟩ : Fin 1024))

theorem transform0 : ∀ t : Fin grid0.N, cc0_transform_0 (grid0.coords t) = ![t.val, 0] := by decide
theorem transform1 : ∀ t : Fin grid0.N, cc0_transform_1 (grid0.coords t) = ![0, 0] := by decide
theorem transform2 : ∀ t : Fin grid0.N, cc0_transform_2 (grid0.coords t) = ![t.val] := by decide

theorem emb0 (t : Fin cfg0.N) (x : S1024x64.Idx) (a : Fin 2) :
    (((cfg0.win 0).blk t).view.emb x a).val = cc0_transform_0 (grid0.coords t) a * S1024x64.size a + 1 * (x a).val := rfl
theorem emb1 (t : Fin cfg0.N) (x : S1024x64.Idx) (a : Fin 2) :
    (((cfg0.win 1).blk t).view.emb x a).val = cc0_transform_1 (grid0.coords t) a * S1024x64.size a + 1 * (x a).val := rfl
theorem emb2 (t : Fin cfg0.N) (x : S1024.Idx) (a : Fin 1) :
    (((cfg0.win 2).blk t).view.emb x a).val = cc0_transform_2 (grid0.coords t) a * S1024.size a + 1 * (x a).val := rfl

theorem stg0_eq (c : Dev nD) (t : Fin cfg0.N) : stg0 V c t = rowsAt (F := F) (V c main_v0) t := funext fun x => by
  show V c main_v0 (((cfg0.win 0).blk t).view.emb x) = _
  refine congrArg (V c main_v0) (funext fun a => Fin.ext ?_)
  rw [emb0, transform0]
  match a with
  | 0 => show t.val * 1024 + 1 * (x 0).val = 1024 * t.val + (x 0).val; omega
  | 1 => show 0 * 64 + 1 * (x 1).val = (x 1).val; omega

theorem stg1_eq (c : Dev nD) (t : Fin cfg0.N) : stg1 V c t = V c main_arg1 := funext fun x => by
  show V c main_arg1 (((cfg0.win 1).blk t).view.emb x) = _
  refine congrArg (V c main_arg1) (funext fun a => Fin.ext ?_)
  rw [emb1, transform1]
  match a with
  | 0 => show 0 * 1024 + 1 * (x 0).val = (x 0).val; omega
  | 1 => show 0 * 64 + 1 * (x 1).val = (x 1).val; omega

/-- The output array at the end of the grid: every vector's code number. -/
theorem final_out (c : Dev nD) : (dats V 0 c).arrAt 2 cfg0.N = codeNums (F := F) (V c main_v0) (V c main_arg1) := by
  refine (dats V 0 c).arrAt_eq_of_cover 2 (codeNums (F := F) (V c main_v0) (V c main_arg1)) (fun t _ => ?_) (fun i => ?_)
  · show blockIdx (F := F) (stg0 V c t) (stg1 V c t) = _
    rw [stg0_eq, stg1_eq]
    funext x
    show _ = codeNums (F := F) (V c main_v0) (V c main_arg1) (((cfg0.win 2).blk t).view.emb x)
    have hx : (x 0).val < 1024 := (x 0).isLt
    have e : (((cfg0.win 2).blk t).view.emb x 0).val = 1024 * t.val + (x 0).val := by
      rw [emb2, transform2]; show t.val * 1024 + 1 * (x 0).val = _; omega
    unfold codeNums
    have e1 : (⟨(((cfg0.win 2).blk t).view.emb x 0).val / 1024, by
        have h : (((cfg0.win 2).blk t).view.emb x 0).val < 9216 := (((cfg0.win 2).blk t).view.emb x 0).isLt; omega⟩ : Fin 9) = t := Fin.ext (by
      show (((cfg0.win 2).blk t).view.emb x 0).val / 1024 = t.val; omega)
    rw [e1]
    refine congrArg _ (funext fun a => Fin.ext ?_)
    match a with
    | 0 => show (x 0).val = (((cfg0.win 2).blk t).view.emb x 0).val % 1024; omega
  · have hi : (i 0).val < 9216 := (i 0).isLt
    let t : Fin cfg0.N := (⟨(i 0).val / 1024, by omega⟩ : Fin 9)
    let x : S1024.Idx := fun | 0 => (⟨(i 0).val % 1024, Nat.mod_lt _ (by decide)⟩ : Fin 1024)
    refine ⟨t, flush0_2 t, ?_⟩
    have e : ((cfg0.win 2).blk t).view.emb x = i := funext fun a => Fin.ext (by
      match a with
      | 0 =>
        refine (emb2 t x 0).trans ?_
        rw [transform2]; show (i 0).val / 1024 * 1024 + 1 * ((i 0).val % 1024) = (i 0).val; omega)
    exact e ▸ ((cfg0.win 2).blk t).view.emb_mem_set x

/-! ## The region -/

/-- The TensorCore owes nothing under the transfers' index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

abbrev adm : (p : Fin 1) → (pcfgs (F := F) p).Adm := fun p => (cfgs p).toPCfg_adm

theorem noOwn : Pipeline.OwnSemFacts spec0 (Fin.elim0 : Fin 0 → SemLoc sig) := by decide

variable (W : Dev nD → Valuation τ sig (Elt F))

/-- The contents of a device's buffers as the TensorCore names them. -/
abbrev tcV (c : Dev nD) (b : Ref sig .tc) : Buf (Elt F) ((c : Thread nD τ).loc b) := W c (Proc.devRef .tc b)

/-- Every buffer after the call. -/
def afterCall (c : Dev nD) : Valuation τ sig (Elt F) := Pipeline.afterRegion (dats (tcV W) 0 c) (W c)

/-- What the TensorCore owes the handshakes, its recorded waits all of the lowest level. -/
abbrev owesTc (c : Dev nD) : sProp 𝕄 :=
  iprop(∃ B, ⌜(K (F := F)).WBelow (c : Thread nD τ) B 0⌝ ∗ owes (c : Thread nD τ) ((K (F := F)).Otc c 0) B)

set_option backward.isDefEq.respectTransparency.types false in
/-- The region: entered with every unscoped buffer at `W`, left with every one at `afterCall W`. -/
def reg0 : Pipeline.RegionSeg (pcfgs (F := F)) adm (dats (tcV W)) (none : HIx 1) defs₀ 𝒱₀ (K (F := F)).L (K (F := F)).lev 0 where
  win := launch0.win.to₀
  block_pos := launch0.block_pos
  stage_whole := launch0.stage_whole
  K := Fin 0
  osem := Fin.elim0
  ho := noOwn
  hbody c := (body_obligation (tcV W) c).loose
  hwaits c := Pipeline.cellsWaits_intro _ _ _ 0 c fun _ _ _ => (K (F := F)).mayWait_none _ (Otc_none c 0)
  pre c := iprop(unscopedBufs c (tcV W c) ∗ owesTc c)
  post c := iprop(unscopedBufs c (tcV (afterCall W) c) ∗ owesTc c)
  X _ := iprop(emp)
  Y _ := iprop(emp)
  Z c := Pipeline.unscopedRest spec0 c (tcV W c)
  hentry c := by
    have hsplit := Pipeline.arrays_of_unscopedBufs (pcfgs (F := F)) adm (dats (tcV W)) launch0.win launch0.arr_whole c
      ((dats (tcV W) 0 c).share_full fun _ => rfl) (tcV W c) (A_eq (tcV W) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%B, %hB, HO⟩; iexists B; isplitr; · ipureintro; exact fun p hp => Or.inl (hB p hp)
      iexact HO
    isplitr; · iempintro
    iexact Hr
  hin c := by
    rw [show (dats (tcV W) 0 c).Φ 0 = iprop(emp) from rfl]
    rw [show Pipeline.scopedRest (Pipeline.pin (pcfgs (F := F)) adm 0).spec c = (iprop(emp) : sProp 𝕄) from scopedRest0_eq c]
    iintro ⟨-, -, H⟩; iexact H
  hout c := by
    rw [show Pipeline.scopedRest (Pipeline.pin (pcfgs (F := F)) adm 0).spec c = (iprop(emp) : sProp 𝕄) from scopedRest0_eq c,
      show Pipeline.ownSems0 (Fin.elim0 : Fin 0 → SemLoc sig) c = (iprop(emp) : sProp 𝕄) from Pipeline.ownSems0_eq_of_list c _ [] (by decide) (by decide)]
    iintro -
    isplitr; · iempintro
    isplitr <;> iempintro
  hexit c := by
    have hjoin := Pipeline.unscopedBufs_of_arrays (p := 0) (pcfgs (F := F)) adm (Ix := HIx 1) (Name := ℕ) (U := UU) (Lvl := ℕ)
          launch0.win launch0.arr_whole c (dats (tcV W)) ((dats (tcV W) 0 c).share_full fun _ => rfl)
          (tcV W c) (tcV (afterCall W) c) ((dats (tcV W) 0 c).arrAt · cfg0.N)
          (fun w => (Pipeline.afterRegion_arr (dats (tcV W) 0 c) (W c) launch0.win.arr_inj w).symm)
          (fun b hb => Pipeline.afterRegion_of_not_arr (dats (tcV W) 0 c) (W c)
            fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%B, %hB, HO⟩; iexists B; isplitr
    · ipureintro; intro p hp
      rcases hB hp with h | h
      · exact h
      obtain ⟨w, s, rfl⟩ := h
      exact le_rfl
    iexact HO

end Cert.KernelIdeal.Run

end
-- ==== Proof.Gather.lean ====
/-
  One tile's task of the SparseCore call, with the contents it leaves.

  The task on SparseCore `c`, subcore `i` fetches words `288 w` to `288 w + 287` of the code numbers (`w = 2 i + c`) into its index
  scratch, gathers the rows of the padded codebook that they name into its row scratch by an indirect copy, and copies these out to
  rows `288 w` to `288 w + 287` of the result. Given code numbers below 1024, it ends with row `n` of its piece of the result at the
  codebook's row of number `n`.
-/
module

public import proofs.«01_k».proof.Proof.Setup
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v1_scv : Memref Cert.KernelIdeal.sig Kind.scVector Space.hbm Cert.KernelIdeal.S9216 EltTy.i32)
local notation "xV" => (Memref.whole Cert.KernelIdeal.main_v2_scv : Memref Cert.KernelIdeal.sig Kind.scVector Space.hbm Cert.KernelIdeal.S1024x128 EltTy.f32)
local notation "oV" => (Memref.whole Cert.KernelIdeal.main_v3_scv : Memref Cert.KernelIdeal.sig Kind.scVector Space.hbm Cert.KernelIdeal.S9216x128 EltTy.f32)
local notation "sV" => (Memref.whole Cert.KernelIdeal.cc1_scratch0 : Memref Cert.KernelIdeal.sig Kind.scVector Space.vmem Cert.KernelIdeal.S288 EltTy.i32)
local notation "rV" => (Memref.whole Cert.KernelIdeal.cc1_scratch1 : Memref Cert.KernelIdeal.sig Kind.scVector Space.vmem Cert.KernelIdeal.S288x128 EltTy.f32)

/-! ## What the call computes -/

/-- The element of the padded codebook that element `j` of the result is: the row that number `j 0` names, column `j 1`. -/
def srcIdx (iv : S9216.Idx → BitVec 32) (j : S9216x128.Idx) : S1024x128.Idx :=
  fun | 0 => (⟨(iv (fun | 0 => j 0)).toNat % 1024, Nat.mod_lt _ (by decide)⟩ : Fin 1024) | 1 => j 1

theorem srcIdx_zero (iv : S9216.Idx → BitVec 32) (j : S9216x128.Idx) :
    (srcIdx iv j 0).val = (iv (fun | 0 => j 0)).toNat % 1024 := rfl
theorem srcIdx_one (iv : S9216.Idx → BitVec 32) (j : S9216x128.Idx) : srcIdx iv j 1 = j 1 := rfl

/-- The gathered rows: row `n` of the result is the padded codebook's row of number `n`. -/
def gathered {α : Type} (iv : S9216.Idx → BitVec 32) (xv : S1024x128.Idx → α) : S9216x128.Idx → α := fun j => xv (srcIdx iv j)

/-! ## The task -/

/-- What task `w` holds: its words of the code numbers, a share of the whole padded codebook, its rows of the result. -/
abbrev iPts (d : Dev nD) (w : Fin 32) (f : Buf (Elt F) (iLoc d)) : sProp 𝕄 := iLoc d ↦[(iPart w).set]{fullShare} f
abbrev xPts (d : Dev nD) (w : Fin 32) (f : Buf (Elt F) (xLoc d)) : sProp 𝕄 := xLoc d ↦{xq w} f
abbrev oPts (d : Dev nD) (w : Fin 32) (f : Buf (Elt F) (oLoc d)) : sProp 𝕄 := oLoc d ↦[(oPart w).set]{fullShare} f

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The piece that the task at coordinates `L` works on. -/
abbrev wL (L : grid1.Coords) : Fin 32 := wid (Fin.cast bound_zero (L 0)) (Fin.cast bound_one (L 1))

theorem wL_val : (wL L).val = (L 0).val + 2 * (L 1).val := wid_val _ _

abbrev iRectK (L : grid1.Coords) : Rect S9216 := Rect.unit (s := S9216) (k1_off1 L) S288.size (k1_off1_inb L)
abbrev oRectK (L : grid1.Coords) : Rect S9216x128 := Rect.unit (s := S9216x128) (k1_off2 L) S288x128.size (k1_off2_inb L)
/-- The task's words of the code numbers, its rows of the result, and all of the padded codebook, as the task addresses them. -/
abbrev iK (L : grid1.Coords) : Memref sig .scVector .hbm S288 .i32 := (iV).slice (iRectK L) (fun _ => rfl)
abbrev oK (L : grid1.Coords) : Memref sig .scVector .hbm S288x128 .f32 := (oV).slice (oRectK L) (fun _ => rfl)
abbrev xK : Memref sig .scVector .hbm S1024x128 .f32 := (xV).slice (Rect.unit (s := S1024x128) ![0, 0] S1024x128.size inb_S1024x128_S1024x128_0_0) (fun _ => rfl)

theorem iRectK_eq : iRectK L = iPart (wL L) := by
  unfold iRectK iPart Rect.part Rect.block
  congr 1 <;> funext a
  · rw [k1_off1_eq]
    match a with
    | 0 => have := wL_val L; simp [Shape.partIx, Shape.partSize, this]; omega
  · match a with
    | 0 => simp [Shape.partSize]
theorem oRectK_eq : oRectK L = oPart (wL L) := by
  unfold oRectK oPart Rect.part Rect.block
  congr 1 <;> funext a
  · rw [k1_off2_eq]
    match a with
    | 0 => have := wL_val L; simp [Shape.partIx, Shape.partSize, this]; omega
    | 1 => simp [Shape.partIx, Shape.partSize]
  · match a with
    | 0 => simp [Shape.partSize]
    | 1 => simp [Shape.partSize]

theorem set_iK : (iK L).view.set = (iPart (wL L)).set := by
  show ((View.whole (main_v1_scv : Ref sig .scVector)).slice (iRectK L)).set = _
  rw [View.set_slice, iRectK_eq]; exact Finset.map_refl
theorem set_oK : (oK L).view.set = (oPart (wL L)).set := by
  show ((View.whole (main_v3_scv : Ref sig .scVector)).slice (oRectK L)).set = _
  rw [View.set_slice, oRectK_eq]; exact Finset.map_refl

theorem pts_iK (f : Buf (Elt F) (iLoc d)) :
    ((iK L).view.loc (V d (cV L) (jV L)) ↦[(iK L).view.set]{fullShare} f : sProp 𝕄) = iLoc d ↦[(iPart (wL L)).set]{fullShare} f := by
  rw [set_iK]
theorem pts_oK (f : Buf (Elt F) (oLoc d)) :
    ((oK L).view.loc (V d (cV L) (jV L)) ↦[(oK L).view.set]{fullShare} f : sProp 𝕄) = oLoc d ↦[(oPart (wL L)).set]{fullShare} f := by
  rw [set_oK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-- The task's three DMA semaphores: of the index fetch, of the gather, of the write-out. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- Word `x` of the task's code numbers is word `288 w + x` of all of them. -/
theorem read_iK (f : Buf (Elt F) (iLoc d)) (x : S288.Idx) : (iK L).view.read (Elt F) f x = f ((iK L).view.emb x) :=
  (View.read_apply _ _).trans (cast_eq _ _)

variable (iv : Buf (Elt F) (iLoc d)) (xv : Buf (Elt F) (xLoc d))

/-- The numbers that the stream reads are rows of the codebook: the index fetch landed the task's words in the scratch. -/
theorem numbers_in_range (hiv : ∀ j : S9216.Idx, (show BitVec 32 from iv j).toNat < 1024) (fs : Buf (Elt F) ((V d (cV L) (jV L)).loc cc1_scratch0))
    (pay : S288.Idx → Elt F .i32) (hpay : pay = (iK L).view.read (Elt F) iv) :
    ∀ x, ((sV).view.read (Elt F) (View.write (Elt F) (sV).view fs pay Finset.univ) x).toNat < S1024x128.size gathers_S1024x128_S288x128.axis := by
  subst hpay; intro x
  rw [View.write_whole_univ]
  simp only [Memref.view_whole, View.read_whole]
  rw [read_iK]
  exact hiv _

/-- Row `x 0` of what the gather brings is, at column `x 1`, the codebook's row that the `x 0`-th fetched word names. -/
theorem payload_eq (hiv : ∀ j : S9216.Idx, (show BitVec 32 from iv j).toNat < 1024)
    (hin : ∀ x, ((iK L).view.read (Elt F) iv x).toNat < S1024x128.size gathers_S1024x128_S288x128.axis) (x : S288x128.Idx) :
    SparseCore.gatherPayload gathers_S1024x128_S288x128 ((xK).view.read (Elt F) xv)
        (SparseCore.rows (o := S288x128.size gathers_S1024x128_S288x128.axis') ((iK L).view.read (Elt F) iv) rfl hin) x
      = gathered iv xv ((oK L).view.emb x) := by
  have hx : ∀ y, (xK).view.read (Elt F) xv y = xv ((xK).view.emb y) := fun y => (View.read_apply _ _).trans (cast_eq _ _)
  unfold SparseCore.gatherPayload gathered
  rw [hx]
  congr 1
  funext a; apply Fin.ext
  match a with
  | 0 =>
    have e1 : ((xK).view.emb (gathers_S1024x128_S288x128.idx (SparseCore.rows (o := S288x128.size gathers_S1024x128_S288x128.axis') ((iK L).view.read (Elt F) iv) rfl hin) x) 0).val
        = 0 + 1 * ((iK L).view.read (Elt F) iv (S288.rowMajor.symm ((x 0).cast rfl))).toNat := rfl
    rw [e1, read_iK]
    refine Eq.trans ?_ (srcIdx_zero iv ((oK L).view.emb x)).symm
    rw [Nat.mod_eq_of_lt (hiv _), Nat.zero_add, Nat.one_mul]
    congr 2
    funext b; apply Fin.ext
    match b with
    | 0 =>
      show k1_off1 L 0 + 1 * ((S288.rowMajor.symm ((x 0).cast rfl)) 0).val = k1_off2 L 0 + 1 * (x 0).val
      have hk := Shape.rowMajor_val_one (S288.rowMajor.symm ((x 0).cast rfl))
      rw [Equiv.apply_symm_apply] at hk
      rw [← hk, k1_off1_eq, k1_off2_eq]
      rfl
  | 1 =>
    show 0 + 1 * (x 1).val = k1_off2 L 1 + 1 * (x 1).val
    rw [k1_off2_eq]; rfl

/-- The rows that a list names are a function of its words. -/
theorem payload_congr {f f' : S288.Idx → Elt F .i32} (e : f = f') (g : S1024x128.Idx → Elt F .f32)
    (h : ∀ x, (f x).toNat < S1024x128.size gathers_S1024x128_S288x128.axis) (h' : ∀ x, (f' x).toNat < S1024x128.size gathers_S1024x128_S288x128.axis) :
    SparseCore.gatherPayload gathers_S1024x128_S288x128 g (SparseCore.rows (o := S288x128.size gathers_S1024x128_S288x128.axis') f rfl h)
      = SparseCore.gatherPayload gathers_S1024x128_S288x128 g (SparseCore.rows (o := S288x128.size gathers_S1024x128_S288x128.axis') f' rfl h') := by
  subst e; rfl

variable [FloatOps F]

set_option maxHeartbeats 4000000 in
theorem tile_body (hF : (K (F := F)).Facts) (hiv : ∀ j : S9216.Idx, (show BitVec 32 from iv j).toNat < 1024) (ov : Buf (Elt F) (oLoc d))
    (O : CellTallies nD τ sig (HIx 1)) (W : Waits sig (HIx 1)) (hO : ∀ g, O g none = 0) :
    iprop(levAts (K (F := F)).L (K (F := F)).lev ∗ emp
        ∗ (iPts d (wL L) iv ∗ xPts d (wL L) xv ∗ oPts d (wL L) ov)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather L xV (Memref.isWhole_whole _) iV (Memref.isWhole_whole _) oV (Memref.isWhole_whole _)
            sV (Memref.isWhole_whole _) rV (Memref.isWhole_whole _) cc1_scratch2 cc1_scoped0 cc1_scoped1)
          fun _ => iprop((iPts d (wL L) iv ∗ xPts d (wL L) xv ∗ oPts d (wL L) (gathered iv xv))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_eq_skeleton]; unfold cc1__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the indirect gather: a share of the codebook, the row scratch, the fetched list and the cell at zero
  ihave Hxs := (pointsTo_split_subset (q := xq (wL L)) (f := xv) (S := Finset.univ) (Finset.subset_univ (xK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 d L iv) Finset.univ : sProp 𝕄)
      = (sV).view.loc (V d (cV L) (jV L)) ↦[(sV).view.set]{fullShare} View.write (Elt F) (sV).view fs (tile_body.sl.dma0 d L iv) Finset.univ
      by rw [hss])) $$ Hs'
  have hN : ∀ h : S1024x128.Gathers 0 S288x128, ∑ j, ((rV).slice (S288x128.rowRect h.axis' j) (S288x128.stride_rowRect h.axis' j)).view.dmaCredit
      = (rV).view.dmaCredit := by decide +kernel
  iapply (SparseCore.wp_indirectGatherLocal countersEmb 𝒱₀ (V d (cV L) (jV L)) none (hg := gathers_S1024x128_S288x128) (default : HIx 1)
      (rV).view.dmaCredit (hN _) (by decide) (numbers_in_range d L iv hiv fs _ rfl)) $$ [Hxs Hr'' Hs'' HsemB]
  · isplitl [Hxs]; · iexact Hxs
    isplitl [Hr'']; · iexact Hr''
    isplitl [Hs'']; · iexact Hs''
    iexact HsemB
  iintro Hfl
  sl_exec
  -- its wait: the row scratch at the gathered rows, the share and the list back, the cell at zero
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', Hxs, Hs'⟩, HsemB, HO⟩
  ihave Hx' := (pointsTo_split_subset (q := xq (wL L)) (f := xv) (S := Finset.univ) (Finset.subset_univ (xK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iK (F := F) d L _)); iexact Hi'
    isplitl [Hx']; · iexact Hx'
    iapply (Entails.of_eq (pts_oK (F := F) d L _))
    iapply (Entails.of_eq (pointsTo_congr (fun i hi => ?_)))
    rotate_left
    · iexact Ho'
    obtain ⟨x, -, rfl⟩ := Finset.mem_map.mp hi
    refine Eq.trans ?_ (payload_eq d L iv xv hiv (fun y => by rw [read_iK]; exact hiv _) x)
    have hw := congrFun (View.read_writes_whole (oK L).view ov (tile_body.sl.dma0_1 d L iv xv hiv fs fr)) x
    rw [View.read_apply, cast_eq] at hw
    refine hw.trans ?_
    unfold tile_body.sl.dma0_1
    exact (congrFun (View.read_write_univ _ _) x).trans (congrFun (payload_congr (View.read_write_univ _ _) _ _ _) x)
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.KernelIdeal.Run

end
-- ==== Proof.Tasks.lean ====
/-
  The SparseCore call's obligations: what its handshakes carry, that each tile's task meets its part, how the operands split among
  the tiles and the result joins.
-/
module

public import proofs.«01_k».proof.Proof.Gather

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem nCore_zero : (K (F := F)).nCore 0 = 2 := rfl
theorem nSub_zero : (K (F := F)).nSub 0 = 16 := rfl

section Contents

-- The contents that the call finds: the code numbers, the padded codebook, the result's array.
variable (iv : (d : Dev nD) → Buf (Elt F) (iLoc d)) (xv : (d : Dev nD) → Buf (Elt F) (xLoc d)) (ov : (d : Dev nD) → Buf (Elt F) (oLoc d))

/-- What task `w` is handed, and what it hands back. -/
abbrev goes (d : Dev nD) (w : Fin 32) : sProp 𝕄 := iprop(iPts d w (iv d) ∗ xPts d w (xv d) ∗ oPts d w (ov d))
abbrev comes (d : Dev nD) (w : Fin 32) : sProp 𝕄 := iprop(iPts d w (iv d) ∗ xPts d w (xv d) ∗ oPts d w (gathered (iv d) (xv d)))

/-- What the handshakes carry: to a SparseCore its 16 tasks' operands, and back its tasks' results. -/
def P : (K (F := F)).Pay (nD := nD) (Val := Elt F) (Name := ℕ) (U := UU) where
  st := fun q d c => match q with
    | 0 => bigSep Finset.univ fun i : Fin 16 => goes iv xv ov d (wid (Fin.cast nCore_zero c) i)
  dn := fun q d c => match q with
    | 0 => bigSep Finset.univ fun i : Fin 16 => comes iv xv d (wid (Fin.cast nCore_zero c) i)
  go := fun q d c i => match q with | 0 => goes iv xv ov d (wid (Fin.cast nCore_zero c) (Fin.cast nSub_zero i))
  td := fun q d c i => match q with | 0 => comes iv xv d (wid (Fin.cast nCore_zero c) (Fin.cast nSub_zero i))
  x := fun _ _ => iprop(emp)

instance P_storable : (P (F := F) iv xv ov).IsStorable where
  st q d c := match q with
    | 0 => (inferInstance : BI.Storable (upEmb : UEmb _ 𝕄) (bigSep Finset.univ fun i : Fin 16 => goes iv xv ov d (wid (Fin.cast nCore_zero c) i)))
  dn q d c := match q with
    | 0 => (inferInstance : BI.Storable (upEmb : UEmb _ 𝕄) (bigSep Finset.univ fun i : Fin 16 => comes iv xv d (wid (Fin.cast nCore_zero c) i)))
  go q d c i := match q with
    | 0 => (inferInstance : BI.Storable (upEmb : UEmb _ 𝕄) (goes iv xv ov d (wid (Fin.cast nCore_zero c) (Fin.cast nSub_zero i))))
  td q d c i := match q with
    | 0 => (inferInstance : BI.Storable (upEmb : UEmb _ 𝕄) (comes iv xv d (wid (Fin.cast nCore_zero c) (Fin.cast nSub_zero i))))

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands are its tasks', and its results theirs. -/
theorem vecSplit : (K (F := F)).VecSplit' (P iv xv ov) 0 := by
  intro d c
  show (bigSep Finset.univ fun i : Fin 16 => goes iv xv ov d (wid (Fin.cast nCore_zero c) i)) ⊢ |={Set.univ}=> iprop(
      (bigSep Finset.univ fun i : Fin ((K (F := F)).nSub 0) => goes iv xv ov d (wid (Fin.cast nCore_zero c) (Fin.cast nSub_zero i)))
      ∗ ((bigSep Finset.univ fun i : Fin ((K (F := F)).nSub 0) => comes iv xv d (wid (Fin.cast nCore_zero c) (Fin.cast nSub_zero i)))
          -∗ bigSep Finset.univ fun i : Fin 16 => comes iv xv d (wid (Fin.cast nCore_zero c) i)))
  rw [bigSep_subs (F := F) (fun i => goes iv xv ov d (wid (Fin.cast nCore_zero c) i)),
    bigSep_subs (F := F) (fun i => comes iv xv d (wid (Fin.cast nCore_zero c) i))]
  iintro H; imodintro
  isplitl [H]; · iexact H
  iintro H; iexact H

/-- What the call is handed over both SparseCores is the three arrays whole; -/
theorem st_all (d : Dev nD) :
    (bigSep Finset.univ fun c : Fin ((K (F := F)).nCore 0) => (P iv xv ov).st 0 d c)
      = (iprop((iLoc d ↦{fullShare} iv d) ∗ (xLoc d ↦{fullShare} xv d) ∗ (oLoc d ↦{fullShare} ov d)) : sProp 𝕄) := by
  rw [iPts_parts, xPts_shares, oPts_parts]
  refine Eq.trans ?_ ((bigSep_tiles fun w => goes iv xv ov d w).symm.trans ((bigSep_sep' ..).trans (congrArg _ (bigSep_sep' ..))))
  exact bigSep_congr fun _ _ => rfl

/-- what it hands back is the arrays with the gathered rows. -/
theorem dn_all (d : Dev nD) :
    (bigSep Finset.univ fun c : Fin ((K (F := F)).nCore 0) => (P iv xv ov).dn 0 d c)
      = (iprop((iLoc d ↦{fullShare} iv d) ∗ (xLoc d ↦{fullShare} xv d)
          ∗ (oLoc d ↦{fullShare} (gathered (iv d) (xv d) : Buf (Elt F) (oLoc d)))) : sProp 𝕄) := by
  rw [iPts_parts, xPts_shares, oPts_parts]
  refine Eq.trans ?_ ((bigSep_tiles fun w => comes iv xv d w).symm.trans ((bigSep_sep' ..).trans (congrArg _ (bigSep_sep' ..))))
  exact bigSep_congr fun _ _ => rfl

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_gather (coordsV c s)
          (Memref.whole main_v2_scv) (Memref.isWhole_whole _) (Memref.whole main_v1_scv) (Memref.isWhole_whole _)
          (Memref.whole main_v3_scv) (Memref.isWhole_whole _) (Memref.whole cc1_scratch0) (Memref.isWhole_whole _)
          (Memref.whole cc1_scratch1) (Memref.isWhole_whole _) cc1_scratch2 cc1_scoped0 cc1_scoped1) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, from its piece of the operands to its piece of the result. -/
theorem tileObl (hF : (K (F := F)).Facts) (hiv : ∀ d, ∀ j : S9216.Idx, (show BitVec 32 from iv d j).toNat < 1024) :
    (K (F := F)).TileObl (D (F := F)) 𝒱 (P iv xv ov) v₀ 0 := by
  intro d c i O W hO _ _
  simp only [show (P iv xv ov).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (iv d) (xv d) hF (hiv d) (ov d) O W hO).trans (wp_mono frame _ _ fun _ => weaken_waits)

end Contents

end Cert.KernelIdeal.Run

end
-- ==== Proof.Launch.lean ====
/-
  The whole program's run: @main on the TensorCore — the host operations, the TensorCore call, the SparseCore call — and the launch
  of all threads, with the contents of every buffer named at the end.
-/
module

public import proofs.«01_k».proof.Proof.Region
public import proofs.«01_k».proof.Proof.Tasks
public import Idealize.ShloMosaic.Lib.SparseCore.Quiescent

@[expose] public section

noncomputable section

namespace Cert.KernelIdeal.Run

open Cert.KernelIdeal Cert.KernelIdeal.Gen Cert.KernelIdeal.Body

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations and the buffers' contents between them -/

variable (m : (ℓ : Loc nD τ sig) → Buf (Elt F) ℓ)

/-- The vectors flattened to rows. -/
abbrev opFlat : HloOp τ sig (Elt F) := StableHlo.reshape main_arg0 main_v0 (rfl : (.f32 : EltTy) = .f32) shapeCasts_S16x576x64_S9216x64
/-- The codebook padded to 128 columns. -/
abbrev opsPad : List (HloOp τ sig (Elt F)) :=
  [StableHlo.nullary main_c (constantI S_ 32 0#32), StableHlo.TRef.unary (.of main_c : StableHlo.TRef sig ⟨S_, .i32⟩) main_call0.v0 (sitofp .f32),
    StableHlo.TRef.binary (.of main_arg1 : StableHlo.TRef sig ⟨S1024x64, .f32⟩) main_call0.v0 main_call0.v1
      (fun x v => pad S1024x128 ![0, 0] ![0, 64] ![0, 0] x v pads_S1024x64_S1024x128_000_0640 h_S_)]
/-- The gathered rows cut to 64 columns and unflattened; the code numbers unflattened. -/
abbrev opsOut : List (HloOp τ sig (Elt F)) :=
  [StableHlo.unary main_v3 main_v4 ((extractStridedSlice S9216x64 ![0, 0] · slices_S9216x128_S9216x64_0_0) : (⟨S9216x128, .f32⟩ : BufTy).Contents (Elt F) → (⟨S9216x64, .f32⟩ : BufTy).Contents (Elt F)),
    StableHlo.reshape main_v4 main_v5 (rfl : (.f32 : EltTy) = .f32) shapeCasts_S9216x64_S16x576x64,
    StableHlo.reshape main_v1 main_v6 (rfl : (.i32 : EltTy) = .i32) shapeCasts_S9216_S16x576]

/-- At the launch; when the TensorCore call is entered; after it; when the SparseCore call is made; after it; at the end. -/
def W0 (d : Dev nD) : Valuation τ sig (Elt F) := fun b => m (d, b)
def W1 (d : Dev nD) : Valuation τ sig (Elt F) := opFlat.result (W0 m d)
def W2 (d : Dev nD) : Valuation τ sig (Elt F) := afterCall (W1 m) d
def W3 (d : Dev nD) : Valuation τ sig (Elt F) := StableHlo.after opsPad (W2 m d)
def W4 (d : Dev nD) : Valuation τ sig (Elt F) :=
  Function.update (W3 m d) (Proc.devRef .tc main_v3) (gathered (W3 m d (Proc.devRef .tc main_v1)) (W3 m d (Proc.devRef .tc main_v2)))
def W5 (d : Dev nD) : Valuation τ sig (Elt F) := StableHlo.after opsOut (W4 m d)

/-- The codebook padded, as the host pads it. -/
def padded (cb : S1024x64.Idx → Elt F .f32) : S1024x128.Idx → Elt F .f32 :=
  pad S1024x128 ![0, 0] ![0, 64] ![0, 0] cb (sitofp .f32 (constantI S_ 32 0#32)) pads_S1024x64_S1024x128_000_0640 h_S_

theorem W1_v0 (d : Dev nD) : W1 m d (Proc.devRef .tc main_v0) = shapeCast S9216x64 (m ((d.tc : Thread nD τ).loc main_arg0)) shapeCasts_S16x576x64_S9216x64 :=
  StableHlo.reshape_result ..
theorem W1_ne (d : Dev nD) {r : Ref sig .tc} (h : r ≠ main_v0) : W1 m d (Proc.devRef .tc r) = m ((d.tc : Thread nD τ).loc r) :=
  StableHlo.reshape_result_ne (h := h) ..

/-- The code numbers of the launch's arguments. -/
def codes (d : Dev nD) : S9216.Idx → BitVec 32 :=
  codeNums (F := F) (shapeCast S9216x64 (m ((d.tc : Thread nD τ).loc main_arg0)) shapeCasts_S16x576x64_S9216x64) (m ((d.tc : Thread nD τ).loc main_arg1))

theorem W2_v1 (d : Dev nD) : W2 m d (Proc.devRef .tc main_v1) = codes m d := by
  refine (Pipeline.afterRegion_arr (dats (tcV (W1 m)) 0 d) (W1 m d) launch0.win.arr_inj 2).trans ((final_out (tcV (W1 m)) d).trans ?_)
  show codeNums (F := F) (W1 m d (Proc.devRef .tc main_v0)) (W1 m d (Proc.devRef .tc main_arg1)) = _
  rw [W1_v0, W1_ne m d (by decide)]; rfl

theorem W2_arg0 (d : Dev nD) : W2 m d (Proc.devRef .tc main_arg0) = m ((d.tc : Thread nD τ).loc main_arg0) :=
  (Pipeline.afterRegion_of_not_arr (dats (tcV (W1 m)) 0 d) (W1 m d) (b := main_arg0) (by decide)).trans (W1_ne m d (by decide))
theorem W2_arg1 (d : Dev nD) : W2 m d (Proc.devRef .tc main_arg1) = m ((d.tc : Thread nD τ).loc main_arg1) :=
  (Pipeline.afterRegion_arr (dats (tcV (W1 m)) 0 d) (W1 m d) launch0.win.arr_inj 1).trans
    (((dats (tcV (W1 m)) 0 d).arrAt_in 1 rfl _).trans (W1_ne m d (r := main_arg1) (by decide)))

theorem W3_v2 (d : Dev nD) : W3 m d (Proc.devRef .tc main_v2) = padded (F := F) (m ((d.tc : Thread nD τ).loc main_arg1)) := by
  unfold W3
  after_results
  rw [W2_arg1]; rfl
theorem W3_v1 (d : Dev nD) : W3 m d (Proc.devRef .tc main_v1) = codes m d := by
  unfold W3; after_results; rw [W2_v1]
theorem W3_arg0 (d : Dev nD) : W3 m d (Proc.devRef .tc main_arg0) = m ((d.tc : Thread nD τ).loc main_arg0) := by
  unfold W3; after_results; rw [W2_arg0]
theorem W3_arg1 (d : Dev nD) : W3 m d (Proc.devRef .tc main_arg1) = m ((d.tc : Thread nD τ).loc main_arg1) := by
  unfold W3; after_results; rw [W2_arg1]

theorem W4_v3 (d : Dev nD) : W4 m d (Proc.devRef .tc main_v3) = gathered (codes m d) (padded (F := F) (m ((d.tc : Thread nD τ).loc main_arg1))) := by
  unfold W4
  rw [Function.update_self, W3_v1, W3_v2]
theorem W4_ne (d : Dev nD) {r : Ref sig .tc} (h : r ≠ main_v3) : W4 m d (Proc.devRef .tc r) = W3 m d (Proc.devRef .tc r) := by
  unfold W4
  rw [Function.update_of_ne (StableHlo.devRef_ne_of_ne h)]

/-- The two results from the arguments: the code numbers, unflattened; the codes of those numbers, unflattened. -/
def outCodes (d : Dev nD) : S16x576.Idx → BitVec 32 := shapeCast S16x576 (codes m d) shapeCasts_S9216_S16x576
def outRows (d : Dev nD) : S16x576x64.Idx → Elt F .f32 :=
  shapeCast S16x576x64 (extractStridedSlice S9216x64 ![0, 0] (gathered (codes m d) (padded (F := F) (m ((d.tc : Thread nD τ).loc main_arg1)))) slices_S9216x128_S9216x64_0_0)
    shapeCasts_S9216x64_S16x576x64

theorem W5_v6 (d : Dev nD) : W5 m d (Proc.devRef .tc main_v6) = outCodes m d := by
  unfold W5
  after_results
  rw [W4_ne m d (by decide), W3_v1]; rfl
theorem W5_v5 (d : Dev nD) : W5 m d (Proc.devRef .tc main_v5) = outRows m d := by
  unfold W5
  after_results
  rw [W4_v3]; rfl
theorem W5_arg0 (d : Dev nD) : W5 m d (Proc.devRef .tc main_arg0) = m ((d.tc : Thread nD τ).loc main_arg0) := by
  unfold W5
  after_results
  rw [W4_ne m d (by decide), W3_arg0]
theorem W5_arg1 (d : Dev nD) : W5 m d (Proc.devRef .tc main_arg1) = m ((d.tc : Thread nD τ).loc main_arg1) := by
  unfold W5
  after_results
  rw [W4_ne m d (by decide), W3_arg1]

/-! ## The buffers as held by the TensorCore -/

/-- The TensorCore's unscoped references, as device buffers: the set the host operations run within. -/
def ucRefs : Finset (DevRef τ sig) := (StableHlo.tcRefs τ sig).filter fun b => ¬ b.isScoped

theorem unscopedBufs_held (d : Dev nD) (W : Valuation τ sig (Elt F)) :
    (unscopedBufs d (fun b => W b) : sProp 𝕄) = StableHlo.held (d : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The buffers that the SparseCore call does not touch. -/
def others : Finset (Ref sig .tc) := {main_arg0, main_arg1, main_v0, main_c, main_call0_v0, main_v4, main_v5, main_v6}

theorem unscopedBufs_eq (d : Dev nD) (W : (b : Ref sig .tc) → Buf (Elt F) ((d.tc : Thread nD τ).loc b)) :
    (unscopedBufs d W : sProp 𝕄) = iprop((iLoc d ↦{fullShare} W main_v1) ∗ (xLoc d ↦{fullShare} W main_v2) ∗ (oLoc d ↦{fullShare} W main_v3)
      ∗ bigSep others fun b => (d.tc : Thread nD τ).loc b ↦{fullShare} W b) := by
  unfold unscopedBufs
  rw [show (Finset.univ.filter fun b : Ref sig .tc => ¬ b.isScoped) = insert main_v1 (insert main_v2 (insert main_v3 others)) by decide,
    SparseCore.bigSep_insert' (by decide), SparseCore.bigSep_insert' (by decide), SparseCore.bigSep_insert' (by decide)]

/-! ## @main on the TensorCore -/

variable (ρ : Dev nD → PrngReg)

/-- What the SparseCore call is handed: the code numbers, the padded codebook, the result's buffer. -/
abbrev iv (d : Dev nD) : Buf (Elt F) (iLoc d) := W3 m d (Proc.devRef .tc main_v1)
abbrev xv (d : Dev nD) : Buf (Elt F) (xLoc d) := W3 m d (Proc.devRef .tc main_v2)
abbrev ov (d : Dev nD) : Buf (Elt F) (oLoc d) := W3 m d (Proc.devRef .tc main_v3)

/-- The pipeline's ghost state, dealt to the TensorCore. -/
abbrev G (d : Dev nD) : sProp 𝕄 :=
  iprop(Pipeline.cellsGhost (Pipeline.pin (pcfgs (F := F)) adm) EP 0 d ∗ Pipeline.toksInit (Pipeline.pin (pcfgs (F := F)) adm) EP 0 d)

abbrev FIN (d : Dev nD) : sProp 𝕄 := StableHlo.held (d : Thread nD τ) ucRefs (W5 m d)

/-- The TensorCore call, as the pipeline's own program. -/
def callProg : Prog (TpuEff nD τ sig (Elt F) (ΛP (F := F)) .tc) PUnit := .op (.customCall (Pipeline.entry 0) ()) fun x => .ret x

theorem callLift : (Prog.lift (.customCall (SparseCore.inner (Pipeline.entry 0)) ())
    : Prog (TpuEff nD τ sig (Elt F) (SparseCore.Sig (ΛP (F := F)) 1) .tc) PUnit) = SparseCore.liftProg (callProg (F := F)) := rfl

set_option backward.isDefEq.respectTransparency.types false in
/-- The TensorCore call, from @main. -/
theorem regionRun [∀ e, Nonempty (Elt F e)] (W : Dev nD → Valuation τ sig (Elt F)) (d : Dev nD) (Φ : PUnit → sProp 𝕄) :
    iprop((boundary (d : Thread nD τ) : sProp 𝕄) ∗ unscopedBufs d (tcV W d) ∗ owesTc d ∗ levAts (K (F := F)).L (K (F := F)).lev ∗ G d
        ∗ (iprop(boundary (d : Thread nD τ) ∗ unscopedBufs d (tcV (afterCall W) d) ∗ owesTc d) -∗ Φ ⟨⟩))
      ⊢ wp frame (wpE ((K (F := F)).defs (D (F := F))) 𝒱 (SparseCore.T d) none) Set.univ
          (Prog.lift (.customCall (SparseCore.inner (Pipeline.entry 0)) ())) Φ := by
  rw [callLift]
  have hl := (K (F := F)).wp_liftProg (D (F := F)) 𝒱 (SparseCore.T d) Set.univ none callProg Φ
  refine BIBase.Entails.trans ?_ hl
  clear hl
  unfold callProg
  have hwp := Pipeline.RegionSeg.wp (pcfgs (F := F)) adm (dats (tcV W)) (none : HIx 1) cellOf_inj EP defs₀ 𝒱₀ (K (F := F)).L (K (F := F)).lev
    (reg0 W) d none (fun _ h => nomatch h) (fun x => .ret x) Φ
  refine BIBase.Entails.trans ?_ hwp
  clear hwp
  iintro ⟨Hb, Hub, HO, Hl, ⟨Hg, Ht⟩, Hk⟩
  isplitl [Hk]
  · rw [wp_ret]
    iintro ⟨Hb, Hp⟩
    ihave Hp := (show (reg0 W).post d ⊢ (iprop(unscopedBufs d (tcV (afterCall W) d) ∗ owesTc d) : sProp 𝕄) from .rfl) $$ Hp
    imodintro
    iapply Hk
    isplitl [Hb]; · iexact Hb
    iexact Hp
  isplitl [Hb]; · iexact Hb
  isplitl [Hub HO]
  · iapply (show (iprop(unscopedBufs d (tcV W d) ∗ owesTc d) : sProp 𝕄) ⊢ (reg0 W).pre d from .rfl)
    isplitl [Hub] <;> iassumption
  isplitl [Hl]; · iexact Hl
  isplitl [Hg] <;> iassumption

/-- The handshakes' state of the TensorCore before the SparseCore call, what it owes taken out. -/
theorem tcSt_open (d : Dev nD) : ((K (F := F)).tcSt EH d 0 : sProp 𝕄) ⊢ iprop(owesTc (F := F) d ∗ (owesTc (F := F) d -∗ (K (F := F)).tcSt EH d 0)) := by
  unfold SparseCore.Cfg.tcSt
  iintro ⟨HO, Hr⟩
  isplitl [HO]; · iexact HO
  iintro HO
  isplitl [HO]; · iexact HO
  iexact Hr

/-- The SparseCore call's operands as it leaves them and the other buffers are every buffer at `W4`. -/
theorem backHeld (d : Dev nD) :
    iprop((iLoc d ↦{fullShare} iv m d : sProp 𝕄) ∗ (xLoc d ↦{fullShare} xv m d) ∗ (oLoc d ↦{fullShare} gathered (iv m d) (xv m d))
      ∗ bigSep others fun b => (d.tc : Thread nD τ).loc b ↦{fullShare} tcV (W3 m) d b) ⊢ StableHlo.held (d : Thread nD τ) ucRefs (W4 m d) := by
  rw [← unscopedBufs_held d (W4 m d), unscopedBufs_eq d (tcV (W4 m) d)]
  rw [show tcV (W4 m) d main_v1 = iv m d from W4_ne m d (by decide), show tcV (W4 m) d main_v2 = xv m d from W4_ne m d (by decide),
    show tcV (W4 m) d main_v3 = gathered (iv m d) (xv m d) from Function.update_self ..,
    show (bigSep others fun b => (d.tc : Thread nD τ).loc b ↦{fullShare} tcV (W4 m) d b : sProp 𝕄) = bigSep others fun b => (d.tc : Thread nD τ).loc b ↦{fullShare} tcV (W3 m) d b from
      bigSep_congr fun b hb => by rw [show tcV (W4 m) d b = tcV (W3 m) d b from W4_ne m d (fun e => absurd (e ▸ hb) (by decide))]]

set_option backward.isDefEq.respectTransparency.types false in
theorem hmain [∀ e, Nonempty (Elt F e)] (κ : GSem nD τ sig → ℕ) (d : Dev nD) :
    iprop((K (F := F)).ctx EH (P (iv m) (xv m) (ov m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d : Thread nD τ) ucRefs (W0 m d) from
    unscopedBufs_held d (W0 m d)]
  simp only [main, fn_pad.body, wp_bind, wp_pure]
  iintro ⟨#Hctx, Hst, ⟨Hb, Hh, Hts, -⟩, ⟨Hg, Htk⟩⟩
  iapply (StableHlo.wp_hlo_within 𝒱 (d : Thread nD τ) none Set.univ (op := opFlat) (sub_ucRefs _ (StableHlo.reshape_bufs_sub ..))) $$ [Hb Hh]
  · isplitl [Hb] <;> iassumption
  iintro ⟨Hb, Hh⟩
  rw [wp_ret]; imodintro
  ihave H := (tcSt_open d) $$ Hst
  icases H with ⟨HO, Hst⟩
  iapply (regionRun (W1 m) d)
  isplitl [Hb]; · iexact Hb
  isplitl [Hh]; · iapply (Entails.of_eq (unscopedBufs_held d (W1 m d)).symm); iexact Hh
  isplitl [HO]; · iexact HO
  isplitr; · iapply (SparseCore.Cfg.ctx_levAts κ); iexact Hctx
  isplitl [Hg Htk]; · isplitl [Hg] <;> iassumption
  iintro ⟨Hb, Hub, HO⟩
  ihave Hst := Hst $$ HO
  ihave Hh := (Entails.of_eq (unscopedBufs_held d (afterCall (W1 m) d))) $$ Hub
  iapply (StableHlo.wp_hlo_within 𝒱 (d : Thread nD τ) none Set.univ (sub_ucRefs _ (StableHlo.nullary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs _ (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs _ (StableHlo.binary_bufs_sub ..))) $$ [Hb Hh]
  · isplitl [Hb] <;> iassumption
  iintro ⟨Hb, Hh⟩
  rw [wp_ret]; imodintro; imodintro
  ihave Hub := (Entails.of_eq ((unscopedBufs_held d (W3 m d)).symm.trans (unscopedBufs_eq d (tcV (W3 m) d)))) $$ [Hh]
  · iexact Hh
  icases Hub with ⟨Hi, Hx, Ho, Hr⟩
  iapply ((K (F := F)).wp_run (D (F := F)) 𝒱 (EH := EH) (P := P (iv m) (xv m) (ov m)) κ d 0)
  isplitr; · iexact Hctx
  isplitl [Hst]; · iexact Hst
  isplitl [Hi Hx Ho]
  · rw [st_all]
    isplitl [Hi]; · iexact Hi
    isplitl [Hx]; · iexact Hx
    iexact Ho
  iintro ⟨Hst, Hdn⟩
  ihave Hdn' := (Entails.of_eq (dn_all (iv m) (xv m) (ov m) d)) $$ Hdn
  icases Hdn' with ⟨Hi, Hx, Ho⟩
  ihave Hh := (backHeld m d) $$ [Hi Hx Ho Hr]
  · isplitl [Hi]; · iexact Hi
    isplitl [Hx]; · iexact Hx
    isplitl [Ho] <;> iassumption
  iapply (StableHlo.wp_hlo_within 𝒱 (d : Thread nD τ) none Set.univ (sub_ucRefs _ (StableHlo.unary_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs _ (StableHlo.reshape_bufs_sub ..))) $$ [Hb Hh]
  · isplitl [Hb] <;> iassumption
  iintro ⟨Hb, Hh⟩
  rw [wp_ret]; imodintro
  iapply (StableHlo.wp_hlo_within 𝒱 (d : Thread nD τ) none Set.univ (sub_ucRefs _ (StableHlo.reshape_bufs_sub ..))) $$ [Hb Hh]
  · isplitl [Hb] <;> iassumption
  iintro ⟨Hb, Hh⟩
  rw [wp_ret]; imodintro
  imodintro
  isplitl [Hst]; · iexact Hst
  isplitl [Hh]; · iexact Hh
  isplitl [Hb] <;> iassumption

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (iv m) (xv m) (ov m)).x q thr) := by
  unfold u₀
  iintro Hu
  ihave H := (ownU_pair (initOf (K (F := F)).hsCells (K (F := F)).hsToks) _) $$ Hu
  icases H with ⟨HH, HP⟩
  ihave H := (own_pair_emb _ _ _) $$ HP
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ fun d : Dev nD => G d : sProp 𝕄) = iprop((bigSep Finset.univ fun c : Dev nD => bigSep Finset.univ fun p : Fin 1 => Pipeline.cellsGhost (Pipeline.pin (pcfgs (F := F)) adm) EP p c)
        ∗ bigSep Finset.univ fun c : Dev nD => bigSep Finset.univ fun p : Fin 1 => Pipeline.toksInit (Pipeline.pin (pcfgs (F := F)) adm) EP p c) from by
      rw [← bigSep_sep']
      exact bigSep_congr fun d _ => by rw [bigSep_univ_of_subsingleton (0 : Fin 1), bigSep_univ_of_subsingleton (0 : Fin 1)]]
    isplitl [Hg] <;> iassumption
  rw [show (bigSep Finset.univ fun thr : Thread nD τ => bigSep Finset.univ fun q : Fin 1 => (P (F := F) (iv m) (xv m) (ov m)).x q thr) = bigSep Finset.univ fun _ => iprop(emp) from
    bigSep_congr fun _ _ => bigSep_univ_of_subsingleton (0 : Fin 1), bigSep_emp']
  iempintro

/-! ## The end -/

/-- What a final state holds on device `d`: the results, the arguments. -/
def fq (d : Dev nD) (s' : Phys nD τ sig (Elt F)) : Prop :=
  s'.mem.mem ((d.tc : Thread nD τ).loc main_v6) = outCodes m d ∧ s'.mem.mem ((d.tc : Thread nD τ).loc main_v5) = outRows m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)

/-- A buffer held at `f` beside a state is `f` in it. -/
theorem agree (d : Dev nD) (s' : Phys nD τ sig (Elt F)) (b : DevRef τ sig) (hb : b ∈ ucRefs) (W : Valuation τ sig (Elt F)) :
    iprop((StableHlo.held (d : Thread nD τ) ucRefs W : sProp 𝕄) ∗ SI s') ⊢ (⌜s'.mem.mem (d, b) = W b⌝ : sProp 𝕄) := by
  unfold StableHlo.held
  iintro ⟨H, HSI⟩
  ihave H := (show (bigSep ucRefs fun b : DevRef τ sig => ((d, b) ↦{fullShare} W b : sProp 𝕄)) ⊢ ((d, b) ↦{fullShare} W b : sProp 𝕄) from bigSep_elim hb) $$ H
  ihave H := (SI_pointsTo_agree (st := s') (ℓ := (d, b)) (I := Finset.univ) (q := fullShare) (f := W b)) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  have h6 := agree d s' (Proc.devRef .tc main_v6) (by decide) (W5 m d)
  have h5 := agree d s' (Proc.devRef .tc main_v5) (by decide) (W5 m d)
  have h0 := agree d s' (Proc.devRef .tc main_arg0) (by decide) (W5 m d)
  have h1 := agree d s' (Proc.devRef .tc main_arg1) (by decide) (W5 m d)
  rw [W5_v6] at h6; rw [W5_v5] at h5; rw [W5_arg0] at h0; rw [W5_arg1] at h1
  iintro H
  ihave H := (persistent_entails_right h6) $$ H
  icases H with ⟨%e6, H⟩
  ihave H := (persistent_entails_right h5) $$ H
  icases H with ⟨%e5, H⟩
  ihave H := (persistent_entails_right h0) $$ H
  icases H with ⟨%e0, H⟩
  ihave H := h1 $$ H
  icases H with %e1
  ipureintro; exact ⟨e6, e5, e0, e1⟩

/-! ## The run -/

def QC : PUnit × MemSt nD τ sig (Elt F) → Prop := fun r =>
  (∀ d : Dev nD, r.2.mem ((d.tc : Thread nD τ).loc main_v6) = outCodes m d ∧ r.2.mem ((d.tc : Thread nD τ).loc main_v5) = outRows m d
    ∧ r.2.mem ((d.tc : Thread nD τ).loc main_arg0) = m ((d.tc : Thread nD τ).loc main_arg0)
    ∧ r.2.mem ((d.tc : Thread nD τ).loc main_arg1) = m ((d.tc : Thread nD τ).loc main_arg1)) ∧ r.2.sem = fun _ => 0

/-- If every code number of the launch's arguments names a row of the codebook, the program ends with the results named above, its
    arguments unchanged and every semaphore at zero. -/
theorem run_main [∀ e, Nonempty (Elt F e)] (h : ∀ d j, (codes m d j).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (iv m) (xv m) (ov m)) (A := ∅) facts v₀
    (fun q hq => match q with | 0 => nomatch hq)
    (fun q _ => match q with | 0 => tileObl (iv m) (xv m) (ov m) facts (fun d j => by
      rw [show iv m d = codes m d from W3_v1 m d]; exact h d j))
    (fun q _ => match q with | 0 => SparseCore.Cfg.VecSplit.of_plain (vecSplit (iv m) (xv m) (ov m)))
    m ρ main G (FIN m) (u₀ (F := F)) (sep_elim_left.trans (hu₀ m)) (hmain m ρ) (fq m) (hfin m) (QC m) (fun _ h hz => ⟨h, hz⟩)

end Cert.KernelIdeal.Run

end
-- ==== Proof.Ref.lean ====
/-
  The reference's run: @main is a line of host operations, so each buffer ends at the operations' composed function of the arguments.

  The composed functions are named here: the distances of all 9216 rows to all 1024 codes (`dists`), the code numbers that the
  arg-min picks (`codes`), the rows that `jnp.take` reads at them (`taken`), and the three results (`outCodes`, `outRows`, `outSt`).
-/
module

public import proofs.«01_k».proof.Proof.Gen.ReferenceIdeal
public import Idealize.ShloMosaic.Lib.StableHlo.Run
public import Idealize.ShloMosaic.Lib.Quiescent

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-- The squared distances before clipping: `|z|² + |c|² − 2 (z · c)`. -/
def sqDists (z : FVec F S9216x64 .f32) (c : FVec F S1024x64 .f32) : FVec F S9216x1024 .f32 :=
  subf
    (addf
      (broadcastInDim S9216x1024 ![0, 1] bcast_S9216x1_S9216x1024_0_1 (broadcastInDim S9216x1 ![0] bcast_S9216_S9216x1_0
        (Host.reduceAdd (mulf z z) (constant S_ .f32 0x00000000#32) reducesTo_S9216x64_S9216_d1 h_S_)))
      (broadcastInDim S9216x1024 ![0, 1] bcast_S1x1024_S9216x1024_0_1 (broadcastInDim S1x1024 ![1] bcast_S1024_S1x1024_1
        (Host.reduceAdd (mulf c c) (constant S_ .f32 0x00000000#32) reducesTo_S1024x64_S1024_d1 h_S_))))
    (mulf (broadcastInDim S9216x1024 ![] bcast_S_S9216x1024 (constant S_ .f32 0x40000000#32))
      (Host.dotGeneral dot_S9216x64_S64x1024_S9216x1024_1_0_0_1_n_n none z (transpose S64x1024 [1, 0] c transposes_S1024x64_S64x1024_1_0)))

/-- The distances: the square roots of the clipped squared distances. -/
def dists (z : FVec F S9216x64 .f32) (c : FVec F S1024x64 .f32) : FVec F S9216x1024 .f32 :=
  Host.sqrt (maximumf (broadcastInDim S9216x1024 ![] bcast_S_S9216x1024 (constant S_ .f32 0x00000000#32)) (sqDists z c))

/-- The numbers that a reduction of (value, number) pairs answers. -/
def argNum {s t u : Shape} {axes : List (Fin s.rank)} (f : F .f32 × BitVec 32 → F .f32 × BitVec 32 → F .f32 × BitVec 32) (x : FVec F s .f32)
    (y : IVec s 32) (ix : FVec F u .f32) (iy : IVec u 32) (h : s.ReducesTo axes t) (hu : 0 < u.numel) : IVec t 32 :=
  fun j => (Host.argReduce f x y ix iy h hu j).2

/-- The arg-min of each row of distances. -/
def argmins (d : FVec F S9216x1024 .f32) : IVec S9216 32 :=
  argNum reducer_argmin_f32_i32 d (iotaInDim S9216x1024 32 1) (constant S_ .f32 0x7F800000#32) (constantI S_ 32 0#32)
    reducesTo_S9216x1024_S9216_d1 h_S_

/-- The code numbers of the 9216 rows. -/
def codes (z : FVec F S9216x64 .f32) (c : FVec F S1024x64 .f32) : IVec S9216 32 := argmins (dists z c)

/-- The start of each row that `jnp.take` reads: a negative number counts from the end. -/
def starts (i : IVec S9216 32) : IVec S9216x1 32 :=
  broadcastInDim S9216x1 ![0] bcast_S9216_S9216x1_0
    (select (cmpi .slt i (broadcastInDim S9216 ![] bcast_S_S9216 (constantI S_ 32 0#32)))
      (addi i (broadcastInDim S9216 ![] bcast_S_S9216 (constantI S_ 32 1024#32))) i)

/-- Whether the start is in range. -/
def inRange (s : IVec S9216x1 32) : IVec S9216 1 :=
  Host.reduce IntOp.andi
    (andi (cmpi .sge s (broadcastInDim S9216x1 ![] bcast_S_S9216x1 (constantI S_ 32 0#32)))
      (cmpi .sle s (broadcastInDim S9216x1 ![0, 1] bcast_S1x1_S9216x1_0_1 (broadcastInDim S1x1 ![1] bcast_S1_S1x1_1 (constantI S1 32 1023#32)))))
    (constantI S_ 1 1#1) reducesTo_S9216x1_S9216_d1 h_S_

/-- The rows that `jnp.take` reads: the codebook's row, or not-a-number where the start is out of range. -/
def taken (c : FVec F S1024x64 .f32) (i : IVec S9216 32) : FVec F S9216x64 .f32 :=
  select (broadcastInDim S9216x64 ![0] bcast_S9216_S9216x64_0 (inRange (starts i)))
    (Host.gather gather_S1024x64_S9216x1_S9216x64_1_0_n_n_0_1_164 c (starts i))
    (broadcastInDim S9216x64 ![] bcast_S_S9216x64 (constant S_ .f32 0x7FC00000#32))

/-- The first result: the code numbers as a 16×576 array. -/
def outCodes (z : FVec F S16x576x64 .f32) (c : FVec F S1024x64 .f32) : IVec S16x576 32 :=
  shapeCast S16x576 (codes (shapeCast S9216x64 z shapeCasts_S16x576x64_S9216x64) c) shapeCasts_S9216_S16x576

/-- The second result: the codes read at those numbers. -/
def outRows (z : FVec F S16x576x64 .f32) (c : FVec F S1024x64 .f32) : FVec F S16x576x64 .f32 :=
  shapeCast S16x576x64 (taken c (codes (shapeCast S9216x64 z shapeCasts_S16x576x64_S9216x64) c)) shapeCasts_S9216x64_S16x576x64

/-- The third result: `z + (q − z)`, `q` the second. -/
def outSt (z : FVec F S16x576x64 .f32) (c : FVec F S1024x64 .f32) : FVec F S16x576x64 .f32 :=
  addf z (subf (outRows z c) z)

/-- @main's operations up to the squared distances. -/
abbrev opsSq : List (HloOp τ sig (Elt F)) :=
  [ reshape main_arg0 main_v0 (rfl : (.f32 : EltTy) = .f32) shapeCasts_S16x576x64_S9216x64,
    binary main_v0 main_v0 main_v1 (mulf : (⟨S9216x64, .f32⟩ : BufTy).Contents (Elt F) → (⟨S9216x64, .f32⟩ : BufTy).Contents (Elt F) → (⟨S9216x64, .f32⟩ : BufTy).Contents (Elt F)),
    nullary main_cst (constant S_ .f32 0x00000000#32),
    binary main_v1 main_cst main_v2 ((fun x v => Host.reduceAdd x v reducesTo_S9216x64_S9216_d1 h_S_) : (⟨S9216x64, .f32⟩ : BufTy).Contents (Elt F) → (⟨S_, .f32⟩ : BufTy).Contents (Elt F) → (⟨S9216, .f32⟩ : BufTy).Contents (Elt F)),
    unary main_v2 main_v3 (broadcastInDim S9216x1 ![0] bcast_S9216_S9216x1_0 : (⟨S9216, .f32⟩ : BufTy).Contents (Elt F) → (⟨S9216x1, .f32⟩ : BufTy).Contents (Elt F)),
    binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S9216x1024 ![0, 1] bcast_S9216x1_S9216x1024_0_1 : (⟨S9216x1, .f32⟩ : BufTy).Contents (Elt F) → (⟨S9216x1024, .f32⟩ : BufTy).Contents (Elt F)),
    unary main_v6 main_v8 (broadcastInDim S9216x1024 ![0, 1] bcast_S1x1024_S9216x1024_0_1 : (⟨S1x1024, .f32⟩ : BufTy).Contents (Elt F) → (⟨S9216x1024, .f32⟩ : BufTy).Contents (Elt F)),
    binary main_v7 main_v8 main_v9 (addf : (⟨S9216x1024, .f32⟩ : BufTy).Contents (Elt F) → (⟨S9216x1024, .f32⟩ : BufTy).Contents (Elt F) → (⟨S9216x1024, .f32⟩ : BufTy).Contents (Elt F)),
    unary main_arg1 main_v10 ((transpose S64x1024 [1, 0] · transposes_S1024x64_S64x1024_1_0) : (⟨S1024x64, .f32⟩ : BufTy).Contents (Elt F) → (⟨S64x1024, .f32⟩ : BufTy).Contents (Elt F)),
    binary main_v0 main_v10 main_v11 ((fun l r => Host.dotGeneral dot_S9216x64_S64x1024_S9216x1024_1_0_0_1_n_n none l r) : (⟨S9216x64, .f32⟩ : BufTy).Contents (Elt F) → (⟨S64x1024, .f32⟩ : BufTy).Contents (Elt F) → (⟨S9216x1024, .f32⟩ : BufTy).Contents (Elt F)),
    nullary main_cst_1 (constant S_ .f32 0x40000000#32),
    unary main_cst_1 main_v12 (broadcastInDim S9216x1024 ![] bcast_S_S9216x1024 : (⟨S_, .f32⟩ : BufTy).Contents (Elt F) → (⟨S9216x1024, .f32⟩ : BufTy).Contents (Elt F)),
    binary main_v12 main_v11 main_v13 (mulf : (⟨S9216x1024, .f32⟩ : BufTy).Contents (Elt F) → (⟨S9216x1024, .f32⟩ : BufTy).Contents (Elt F) → (⟨S9216x1024, .f32⟩ : BufTy).Contents (Elt F)),
    binary main_v9 main_v13 main_v14 (subf : (⟨S9216x1024, .f32⟩ : BufTy).Contents (Elt F) → (⟨S9216x1024, .f32⟩ : BufTy).Contents (Elt F) → (⟨S9216x1024, .f32⟩ : BufTy).Contents (Elt F)),
    nullary main_cst_2 (constant S_ .f32 0x00000000#32) ]

/-- The operations of the call of `clip`. -/
abbrev opsClip : List (HloOp τ sig (Elt F)) :=
  [ TRef.unary (.of main_cst_2) main_call0.v0 id,
    TRef.unary main_call0.v0 main_call0.v1 (broadcastInDim S9216x1024 ![] bcast_S_S9216x1024),
    TRef.binary main_call0.v1 (.of main_v14) main_call0.v2 maximumf ]

/-- The square root. -/
abbrev opsSqrt : List (HloOp τ sig (Elt F)) :=
  [ unary main_v15 main_v16 (Host.sqrt : (⟨S9216x1024, .f32⟩ : BufTy).Contents (Elt F) → (⟨S9216x1024, .f32⟩ : BufTy).Contents (Elt F)) ]

/-- The operations of the call of `argmin`. -/
abbrev opsArgmin : List (HloOp τ sig (Elt F)) :=
  [ TRef.nullary main_call1.v0 (iotaInDim S9216x1024 32 1),
    TRef.nullary main_call1.cst (constant S_ .f32 0x7F800000#32),
    TRef.nullary main_call1.c (constantI S_ 32 0#32),
    TRef.quaternary (.of main_v16) main_call1.v0 main_call1.cst main_call1.c main_call1.v1_0 (fun x y u v j => (Host.argReduce reducer_argmin_f32_i32 x y u v reducesTo_S9216x1024_S9216_d1 h_S_ j).1),
    TRef.quaternary (.of main_v16) main_call1.v0 main_call1.cst main_call1.c main_call1.v1_1 (fun x y u v j => (Host.argReduce reducer_argmin_f32_i32 x y u v reducesTo_S9216x1024_S9216_d1 h_S_ j).2) ]

/-- The operations of the call of `take`, the call of `where` in it unfolded. -/
abbrev opsTake : List (HloOp τ sig (Elt F)) :=
  [ TRef.nullary main_call2.c (constantI S_ 32 0#32),
    TRef.unary main_call2.c main_call2.v0 (broadcastInDim S9216 ![] bcast_S_S9216),
    TRef.binary (.of main_v17) main_call2.v0 main_call2.v1 (cmpi .slt),
    TRef.nullary main_call2.c_0 (constantI S_ 32 1024#32),
    TRef.unary main_call2.c_0 main_call2.v2 (broadcastInDim S9216 ![] bcast_S_S9216),
    TRef.binary (.of main_v17) main_call2.v2 main_call2.v3 addi,
    TRef.ternary main_call2.v1 main_call2.v3 (.of main_v17) main_call2.call0.v0 select,
    TRef.unary main_call2.call0.v0 main_call2.v5 (broadcastInDim S9216x1 ![0] bcast_S9216_S9216x1_0),
    TRef.nullary main_call2.c_1 (constantI S1 32 1023#32),
    TRef.nullary main_call2.c_2 (constantI S_ 32 0#32),
    TRef.unary main_call2.c_2 main_call2.v6 (broadcastInDim S9216x1 ![] bcast_S_S9216x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S9216x1 ![0, 1] bcast_S1x1_S9216x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S9216x1_S9216_d1 h_S_),
    TRef.binary (.of main_arg1) main_call2.v5 main_call2.v13 (fun x i => Host.gather gather_S1024x64_S9216x1_S9216x64_1_0_n_n_0_1_164 x i),
    TRef.unary main_call2.v12 main_call2.v14 (broadcastInDim S9216x64 ![0] bcast_S9216_S9216x64_0),
    TRef.nullary main_call2.cst (constant S_ .f32 0x7FC00000#32),
    TRef.unary main_call2.cst main_call2.v15 (broadcastInDim S9216x64 ![] bcast_S_S9216x64),
    TRef.ternary main_call2.v14 main_call2.v13 main_call2.v15 main_call2.v16 select ]

/-- @main's operations after that. -/
abbrev opsEnd : List (HloOp τ sig (Elt F)) :=
  [ reshape main_v18 main_v19 (rfl : (.f32 : EltTy) = .f32) shapeCasts_S9216x64_S16x576x64,
    binary main_v19 main_arg0 main_v20 (subf : (⟨S16x576x64, .f32⟩ : BufTy).Contents (Elt F) → (⟨S16x576x64, .f32⟩ : BufTy).Contents (Elt F) → (⟨S16x576x64, .f32⟩ : BufTy).Contents (Elt F)),
    binary main_arg0 main_v20 main_v21 (addf : (⟨S16x576x64, .f32⟩ : BufTy).Contents (Elt F) → (⟨S16x576x64, .f32⟩ : BufTy).Contents (Elt F) → (⟨S16x576x64, .f32⟩ : BufTy).Contents (Elt F)),
    reshape main_v17 main_v22 (rfl : (.i32 : EltTy) = .i32) shapeCasts_S9216_S16x576 ]

/-- All of @main's operations, in order. -/
def ops : List (HloOp τ sig (Elt F)) := opsSq ++ (opsClip ++ (opsSqrt ++ (opsArgmin ++ (opsTake ++ opsEnd))))

theorem clip_eq : (fn_clip.body (.of main_v14) (.of main_cst_2) main_call0 : Prog (TpuEff nD τ sig (Elt F) _ .tc) PUnit) = seq opsClip := by
  simp only [fn_clip.body, seq]

theorem argmin_eq : (fn_argmin.body (.of main_v16) main_call1 : Prog (TpuEff nD τ sig (Elt F) _ .tc) PUnit) = seq opsArgmin := by
  simp only [fn_argmin.body, seq]

theorem take_eq : (fn_take.body (.of main_arg1) (.of main_v17) main_call2 : Prog (TpuEff nD τ sig (Elt F) _ .tc) PUnit) = seq opsTake := by
  simp only [fn_take.body, fn_where.body, seq, bind_assoc, pure_bind]

/-- @main is that line. -/
theorem main_eq (c : Dev nD) : main (F := F) c = seq ops := by
  rw [ops, seq_append, seq_append, seq_append, seq_append, seq_append, ← clip_eq, ← argmin_eq, ← take_eq]
  simp only [main, seq, bind_assoc, pure_bind]

/-- A line read after another. -/
theorem after_append (a b : List (HloOp τ sig (Elt F))) (V : Valuation τ sig (Elt F)) : after (a ++ b) V = after b (after a V) := by
  induction a generalizing V with
  | nil => rfl
  | cons op l ih => exact ih _

theorem sq_v14 (V : Valuation τ sig (Elt F)) : after opsSq V (main_v14 : DevRef τ sig)
    = sqDists (shapeCast S9216x64 (V (main_arg0 : DevRef τ sig)) shapeCasts_S16x576x64_S9216x64) (V (main_arg1 : DevRef τ sig)) := by
  after_results_simp
  rfl

theorem sq_cst (V : Valuation τ sig (Elt F)) : after opsSq V (main_cst_2 : DevRef τ sig) = constant S_ .f32 0x00000000#32 := by
  after_results

theorem sq_arg0 (V : Valuation τ sig (Elt F)) : after opsSq V (main_arg0 : DevRef τ sig) = V (main_arg0 : DevRef τ sig) := by
  after_results

theorem sq_arg1 (V : Valuation τ sig (Elt F)) : after opsSq V (main_arg1 : DevRef τ sig) = V (main_arg1 : DevRef τ sig) := by
  after_results

theorem clip_v15 (V : Valuation τ sig (Elt F)) : after opsClip V (main_v15 : DevRef τ sig)
    = maximumf (broadcastInDim S9216x1024 ![] bcast_S_S9216x1024 (V (main_cst_2 : DevRef τ sig))) (V (main_v14 : DevRef τ sig)) := by
  after_results_simp
  rfl

theorem clip_arg0 (V : Valuation τ sig (Elt F)) : after opsClip V (main_arg0 : DevRef τ sig) = V (main_arg0 : DevRef τ sig) := by
  after_results

theorem clip_arg1 (V : Valuation τ sig (Elt F)) : after opsClip V (main_arg1 : DevRef τ sig) = V (main_arg1 : DevRef τ sig) := by
  after_results

theorem sqrt_v16 (V : Valuation τ sig (Elt F)) : after opsSqrt V (main_v16 : DevRef τ sig) = Host.sqrt (V (main_v15 : DevRef τ sig)) := by
  after_results

theorem sqrt_arg0 (V : Valuation τ sig (Elt F)) : after opsSqrt V (main_arg0 : DevRef τ sig) = V (main_arg0 : DevRef τ sig) := by
  after_results

theorem sqrt_arg1 (V : Valuation τ sig (Elt F)) : after opsSqrt V (main_arg1 : DevRef τ sig) = V (main_arg1 : DevRef τ sig) := by
  after_results

theorem argmin_v17 (V : Valuation τ sig (Elt F)) : after opsArgmin V (main_v17 : DevRef τ sig) = argmins (V (main_v16 : DevRef τ sig)) := by
  after_results_simp
  rfl

theorem argmin_arg0 (V : Valuation τ sig (Elt F)) : after opsArgmin V (main_arg0 : DevRef τ sig) = V (main_arg0 : DevRef τ sig) := by
  after_results

theorem argmin_arg1 (V : Valuation τ sig (Elt F)) : after opsArgmin V (main_arg1 : DevRef τ sig) = V (main_arg1 : DevRef τ sig) := by
  after_results

theorem take_v18 (V : Valuation τ sig (Elt F)) : after opsTake V (main_v18 : DevRef τ sig)
    = taken (V (main_arg1 : DevRef τ sig)) (V (main_v17 : DevRef τ sig)) := by
  after_results_simp
  simp -implicitDefEqProofs only [TRef.ofBuf_toBuf, TRef.ofBuf, TRef.toBuf, cast_eq, taken, inRange, starts]

theorem take_v17 (V : Valuation τ sig (Elt F)) : after opsTake V (main_v17 : DevRef τ sig) = V (main_v17 : DevRef τ sig) := by
  after_results

theorem take_arg0 (V : Valuation τ sig (Elt F)) : after opsTake V (main_arg0 : DevRef τ sig) = V (main_arg0 : DevRef τ sig) := by
  after_results

theorem take_arg1 (V : Valuation τ sig (Elt F)) : after opsTake V (main_arg1 : DevRef τ sig) = V (main_arg1 : DevRef τ sig) := by
  after_results

theorem end_v19 (V : Valuation τ sig (Elt F)) : after opsEnd V (main_v19 : DevRef τ sig)
    = shapeCast S16x576x64 (V (main_v18 : DevRef τ sig)) shapeCasts_S9216x64_S16x576x64 := by
  after_results_simp
  rfl

theorem end_v21 (V : Valuation τ sig (Elt F)) : after opsEnd V (main_v21 : DevRef τ sig)
    = addf (V (main_arg0 : DevRef τ sig)) (subf (shapeCast S16x576x64 (V (main_v18 : DevRef τ sig)) shapeCasts_S9216x64_S16x576x64) (V (main_arg0 : DevRef τ sig))) := by
  after_results_simp
  rfl

theorem end_v22 (V : Valuation τ sig (Elt F)) : after opsEnd V (main_v22 : DevRef τ sig)
    = shapeCast S16x576 (V (main_v17 : DevRef τ sig)) shapeCasts_S9216_S16x576 := by
  after_results_simp
  rfl

theorem end_arg0 (V : Valuation τ sig (Elt F)) : after opsEnd V (main_arg0 : DevRef τ sig) = V (main_arg0 : DevRef τ sig) := by
  after_results

theorem end_arg1 (V : Valuation τ sig (Elt F)) : after opsEnd V (main_arg1 : DevRef τ sig) = V (main_arg1 : DevRef τ sig) := by
  after_results

/-- No operation writes an argument. -/
theorem arg0_eq (V : Valuation τ sig (Elt F)) : after ops V (main_arg0 : DevRef τ sig) = V (main_arg0 : DevRef τ sig) := by
  simp only [ops, after_append]
  rw [end_arg0, take_arg0, argmin_arg0, sqrt_arg0, clip_arg0, sq_arg0]

theorem arg1_eq (V : Valuation τ sig (Elt F)) : after ops V (main_arg1 : DevRef τ sig) = V (main_arg1 : DevRef τ sig) := by
  simp only [ops, after_append]
  rw [end_arg1, take_arg1, argmin_arg1, sqrt_arg1, clip_arg1, sq_arg1]

/-- The first result's buffer. -/
theorem codes_eq (V : Valuation τ sig (Elt F)) :
    after ops V (main_v22 : DevRef τ sig) = outCodes (V (main_arg0 : DevRef τ sig)) (V (main_arg1 : DevRef τ sig)) := by
  simp only [ops, after_append]
  rw [end_v22, take_v17, argmin_v17, sqrt_v16, clip_v15, sq_cst, sq_v14]
  rfl

/-- The second result's buffer. -/
theorem rows_eq (V : Valuation τ sig (Elt F)) :
    after ops V (main_v19 : DevRef τ sig) = outRows (V (main_arg0 : DevRef τ sig)) (V (main_arg1 : DevRef τ sig)) := by
  simp only [ops, after_append]
  rw [end_v19, take_v18, argmin_v17, argmin_arg1, sqrt_v16, sqrt_arg1, clip_v15, clip_arg1, sq_cst, sq_v14, sq_arg1]
  rfl

/-- The third result's buffer. -/
theorem st_eq (V : Valuation τ sig (Elt F)) :
    after ops V (main_v21 : DevRef τ sig) = outSt (V (main_arg0 : DevRef τ sig)) (V (main_arg1 : DevRef τ sig)) := by
  simp only [ops, after_append]
  rw [end_v21, take_v18, take_arg0, argmin_v17, argmin_arg0, argmin_arg1, sqrt_v16, sqrt_arg0, sqrt_arg1, clip_v15, clip_arg0, clip_arg1,
    sq_cst, sq_v14, sq_arg0, sq_arg1]
  rfl

/-- Nothing is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches the TensorCore's references alone. -/
theorem ops_sub : (ops : List (HloOp τ sig (Elt F))).Forall fun op => op.bufs ⊆ tcRefs τ sig := by simp [ops]

/-- Every operation determines its result. -/
theorem ops_fresh : ∀ op ∈ (ops : List (HloOp τ sig (Elt F))), op.fresh = ∅ := by
  intro _ h
  unfold ops at h
  (repeat (cases h with | head => rfl | tail _ h => ?_))
  exact nomatch h

/-- What the reference's run ends with: the three results, the arguments as they were, every semaphore at zero. -/
def QR (m : (ℓ : Loc nD τ sig) → Buf (Elt F) ℓ) (r : PUnit × MemSt nD τ sig (Elt F)) : Prop :=
  (∀ d : Dev nD,
    r.2.mem ((d.tc : Thread nD τ).loc main_v22) = outCodes (m ((d.tc : Thread nD τ).loc main_arg0)) (m ((d.tc : Thread nD τ).loc main_arg1))
    ∧ r.2.mem ((d.tc : Thread nD τ).loc main_v19) = outRows (m ((d.tc : Thread nD τ).loc main_arg0)) (m ((d.tc : Thread nD τ).loc main_arg1))
    ∧ r.2.mem ((d.tc : Thread nD τ).loc main_v21) = outSt (m ((d.tc : Thread nD τ).loc main_arg0)) (m ((d.tc : Thread nD τ).loc main_arg1))
    ∧ r.2.mem ((d.tc : Thread nD τ).loc main_arg0) = m ((d.tc : Thread nD τ).loc main_arg0)
    ∧ r.2.mem ((d.tc : Thread nD τ).loc main_arg1) = m ((d.tc : Thread nD τ).loc main_arg1))
  ∧ r.2.sem = fun _ => 0

/-- From any memory with zero counters the reference terminates, and every final state is as `QR` says. -/
theorem run_main (m : (ℓ : Loc nD τ sig) → Buf (Elt F) ℓ) (ρ : Dev nD → PrngReg) :
    θ_run (defs (F := F)) (onTc (τ := τ) (main (F := F))) ⟨m, fun _ => 0, ρ⟩ (QR m) :=
  (θ_run defs _ _).mono (fun r h => ⟨fun c => ⟨(h c main_v22).trans (codes_eq _), (h c main_v19).trans (rows_eq _),
      (h c main_v21).trans (st_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ (fun _ => ops_fresh))

end Cert.ReferenceIdeal.Run

end
-- ==== Proof.FirstMin.lean ====
/-
  The first least entry of a finite family of extended reals, and the two ways of finding it that the programs use: a least value, then the
  least number at which it stands, half by half; and a left fold of the lexicographic minimum over (value, number) pairs.
-/
module

public import Mathlib.Data.EReal.Basic
public import Mathlib.Data.EReal.Operations
public import Mathlib.Data.Finset.Fold
public import Mathlib.Data.Finset.Max
public import Mathlib.Data.Fintype.Basic
public import Mathlib.Order.Fin.Basic
public import Idealize.ShloMosaic.PureOps

@[expose] public section

namespace Cert.FirstMin

/-- `n` is the first place at which `f` is least. -/
def IsFirstMin {N : Nat} (f : Fin N → EReal) (n : Fin N) : Prop := (∀ k, f n ≤ f k) ∧ ∀ k, k < n → f n < f k

/-- There is one such place at most. -/
theorem IsFirstMin.unique {N : Nat} {f : Fin N → EReal} {n n' : Fin N} (h : IsFirstMin f n) (h' : IsFirstMin f n') : n = n' := by
  rcases lt_trichotomy n n' with hlt | he | hgt
  · exact absurd (h.1 n') (not_le.mpr (h'.2 n hlt))
  · exact he
  · exact absurd (h'.1 n) (not_le.mpr (h.2 n' hgt))

/-- A map that keeps and reflects the order of the family's values keeps its first least place. -/
theorem IsFirstMin.of_map {N : Nat} {f : Fin N → EReal} {n : Fin N} (g : EReal → EReal) (hg : ∀ a b, g (f a) ≤ g (f b) ↔ f a ≤ f b)
    (h : IsFirstMin (fun k => g (f k)) n) : IsFirstMin f n :=
  ⟨fun k => (hg n k).mp (h.1 k), fun k hk => lt_of_not_ge fun hle => absurd ((hg k n).mpr hle) (not_le.mpr (h.2 k hk))⟩

/-- The least of a nonempty finite family, folded from `+∞`, is one of its entries and at most each. -/
theorem fold_min_mem {N : Nat} (hN : 0 < N) (f : Fin N → EReal) :
    ∃ k, Finset.univ.fold min ⊤ f = f k ∧ ∀ k', f k ≤ f k' := by
  have : Nonempty (Fin N) := ⟨⟨0, hN⟩⟩
  obtain ⟨k, -, hk⟩ := Finset.exists_min_image Finset.univ f Finset.univ_nonempty
  refine ⟨k, le_antisymm ?_ ?_, fun k' => hk k' (Finset.mem_univ k')⟩
  · exact (Finset.fold_min_le _).mpr (Or.inr ⟨k, Finset.mem_univ k, le_rfl⟩)
  · exact (Finset.le_fold_min _).mpr ⟨le_top, fun x hx => hk x hx⟩

/-- The least number at which a family of 512 takes its least value, the numbers at which it does not replaced by 1024: the family's first
    least place. -/
theorem half (f : Fin 512 → EReal) : ∃ n, IsFirstMin f n ∧ Finset.univ.fold min ⊤ f = f n
    ∧ Finset.univ.fold min ⊤ (fun k => if f k = Finset.univ.fold min ⊤ f then ((k.val : ℝ) : EReal) else ((1024 : ℝ) : EReal)) = ((n.val : ℝ) : EReal) := by
  obtain ⟨k₀, e₀, h₀⟩ := fold_min_mem (by decide) f
  obtain ⟨n, e, h⟩ := fold_min_mem (by decide) (fun k : Fin 512 => if f k = Finset.univ.fold min ⊤ f then ((k.val : ℝ) : EReal) else ((1024 : ℝ) : EReal))
  have hn : f n = Finset.univ.fold min ⊤ f := by
    by_contra hne
    have h1 := h k₀
    rw [if_neg hne, if_pos e₀.symm, EReal.coe_le_coe_iff] at h1
    have : (k₀.val : ℝ) < 1024 := by exact_mod_cast lt_trans k₀.isLt (by decide)
    exact absurd h1 (not_le.mpr this)
  have hmin : ∀ k, f n ≤ f k := fun k => by rw [hn, e₀]; exact h₀ k
  refine ⟨n, ⟨hmin, fun k hk => lt_of_le_of_ne (hmin k) fun heq => ?_⟩, hn.symm, by rw [e, if_pos hn]⟩
  have h1 := h k
  rw [if_pos hn, if_pos (heq.symm.trans hn), EReal.coe_le_coe_iff] at h1
  exact absurd hk (not_lt.mpr (by exact_mod_cast h1))

/-- The first least place of a family of 1024 from those of its halves: the first half's, unless the second half has a lesser value. -/
theorem join (f : Fin 1024 → EReal) (a b : Fin 512) (ha : IsFirstMin (fun k : Fin 512 => f ⟨k.val, by omega⟩) a)
    (hb : IsFirstMin (fun k : Fin 512 => f ⟨512 + k.val, by omega⟩) b) :
    IsFirstMin f (if f ⟨a.val, by omega⟩ ≤ f ⟨512 + b.val, by omega⟩ then ⟨a.val, by omega⟩ else ⟨512 + b.val, by omega⟩) := by
  have split : ∀ P : Fin 1024 → Prop, (∀ k : Fin 512, P ⟨k.val, by omega⟩) → (∀ k : Fin 512, P ⟨512 + k.val, by omega⟩) → ∀ k, P k := by
    intro P h1 h2 k
    by_cases hk : k.val < 512
    · exact h1 ⟨k.val, hk⟩
    · have := h2 ⟨k.val - 512, by omega⟩
      rwa [show (⟨512 + (k.val - 512), by omega⟩ : Fin 1024) = k from Fin.ext (by simp; omega)] at this
  split_ifs with hle
  · refine ⟨split _ ha.1 fun k => hle.trans (hb.1 k), fun k hk => ?_⟩
    have hk' : k.val < a.val := hk
    exact ha.2 ⟨k.val, by omega⟩ hk'
  · have hlt := not_le.mp hle
    refine ⟨split _ (fun k => hlt.le.trans (ha.1 k)) hb.1, split _ (fun k _ => lt_of_lt_of_le hlt (ha.1 k)) fun k hk => hb.2 k ?_⟩
    have hk' : 512 + k.val < 512 + b.val := hk
    exact Fin.lt_def.mpr (by omega)

/-- One pair comes before another: a lesser value, or the same value and a number not greater. -/
def Before (p q : EReal × BitVec 32) : Prop := p.1 < q.1 ∨ (p.1 = q.1 ∧ p.2.toInt ≤ q.2.toInt)

theorem Before.refl (p : EReal × BitVec 32) : Before p p := Or.inr ⟨rfl, le_rfl⟩

theorem Before.trans {p q r : EReal × BitVec 32} (h : Before p q) (h' : Before q r) : Before p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A left fold of an operation that answers one of its two pairs, before both, answers one of all the pairs, before all. -/
theorem foldl_before (f : EReal × BitVec 32 → EReal × BitVec 32 → EReal × BitVec 32)
    (hf : ∀ a b, (f a b = a ∨ f a b = b) ∧ Before (f a b) a ∧ Before (f a b) b) (l : List (EReal × BitVec 32)) (p : EReal × BitVec 32) :
    (l.foldl f p = p ∨ l.foldl f p ∈ l) ∧ Before (l.foldl f p) p ∧ ∀ q ∈ l, Before (l.foldl f p) q := by
  induction l generalizing p with
  | nil => exact ⟨Or.inl rfl, Before.refl p, fun q hq => absurd hq (by simp)⟩
  | cons q l ih =>
    obtain ⟨hm, h1, h2⟩ := ih (f p q)
    obtain ⟨hc, hp, hq⟩ := hf p q
    refine ⟨?_, h1.trans hp, fun r hr => ?_⟩
    · rcases hm with hm | hm
      · rcases hc with hc | hc
        · exact Or.inl (hm.trans hc)
        · exact Or.inr (by rw [List.foldl_cons, hm, hc]; exact List.mem_cons_self)
      · exact Or.inr (List.mem_cons_of_mem _ hm)
    · rcases List.mem_cons.mp hr with rfl | hr
      · exact h1.trans hq
      · exact h2 r hr

/-- The pair before all the pairs `(f k, k)` of a family and before `(+∞, 0)`, being one of them, has for its number the family's first
    least place. -/
theorem pairs (f : Fin 1024 → EReal) (r : EReal × BitVec 32) (hm : r = (⊤, 0#32) ∨ ∃ k : Fin 1024, r = (f k, BitVec.ofNat 32 k.val))
    (hb : ∀ k : Fin 1024, Before r (f k, BitVec.ofNat 32 k.val)) : ∃ n : Fin 1024, IsFirstMin f n ∧ r.2 = BitVec.ofNat 32 n.val := by
  have toInt : ∀ k : Fin 1024, (BitVec.ofNat 32 k.val).toInt = k.val := fun k => by
    have := k.isLt
    rw [BitVec.toInt_ofNat']
    simp [Int.bmod]
    omega
  rcases hm with rfl | ⟨n, rfl⟩
  · have top : ∀ k, f k = ⊤ := fun k => by
      rcases hb k with h | ⟨h, -⟩
      · exact absurd h (not_lt.mpr le_top)
      · exact h.symm
    exact ⟨0, ⟨fun k => by rw [top, top], fun k hk => absurd hk (by simp)⟩, rfl⟩
  · refine ⟨n, ⟨fun k => ?_, fun k hk => ?_⟩, rfl⟩
    · rcases hb k with h | ⟨h, -⟩
      · exact h.le
      · exact h.le
    · rcases hb k with h | ⟨-, h⟩
      · exact h
      · simp only [toInt] at h
        have hk' : k.val < n.val := hk
        omega

end Cert.FirstMin

end
-- ==== Proof.Dist.lean ====
/-
  The clipped squared distance of two vectors of 64 extended reals, `max (|v|² + |c|² − 2 (v · c)) 0`, and the two orders in which the
  programs multiply by 2.
-/
module

public import proofs.«01_k».proof.Proof.FirstMin
public import Idealize.ShloMosaic.PureOps.Ideal.Laws
public import Mathlib.Tactic.NormNum

@[expose] public section

noncomputable section

namespace Cert.Dist

open Idealize.ShloMosaic
open scoped BigOperators

/-- The clipped squared distance, each entry of the first vector doubled before the product is taken. -/
def sqDist (v c : Fin 64 → EReal) : EReal := max ((∑ k, v k * v k) + (∑ k, c k * c k) - ∑ k, ((2 : ℝ) : EReal) * v k * c k) 0

/-- Doubling each term or the whole sum is the same, infinite terms included. -/
theorem two_mul_sum (v c : Fin 64 → EReal) : ((2 : ℝ) : EReal) * ∑ k, v k * c k = ∑ k, ((2 : ℝ) : EReal) * v k * c k := by
  have dist : ∀ s : Finset (Fin 64), ((2 : ℝ) : EReal) * ∑ k ∈ s, v k * c k = ∑ k ∈ s, ((2 : ℝ) : EReal) * v k * c k := fun s => by
    induction s using Finset.induction_on with
    | empty => simp
    | insert a s ha ih =>
      rw [Finset.sum_insert ha, Finset.sum_insert ha, EReal.left_distrib_of_nonneg_of_ne_top (by exact_mod_cast (by norm_num : (0 : ℝ) ≤ 2)) (EReal.coe_ne_top _),
        ih, mul_assoc]
  exact dist Finset.univ

theorem sqDist_nonneg (v c : Fin 64 → EReal) : 0 ≤ sqDist v c := le_max_right _ _

theorem ofBits_top : Ideal.ofBits .f32 0x7F800000#32 = ⊤ := by simp [Ideal.ofBits, Ideal.ieee]
theorem ofBits_two : Ideal.ofBits .f32 0x40000000#32 = ((2 : ℝ) : EReal) := by simp [Ideal.ofBits, Ideal.ieee]; rw [← EReal.coe_mul]; norm_num
theorem ofBits_512 : Ideal.ofBits .f32 0x44000000#32 = ((512 : ℝ) : EReal) := by simp [Ideal.ofBits, Ideal.ieee]; rw [← EReal.coe_mul]; norm_num
theorem ofBits_1024 : Ideal.ofBits .f32 0x44800000#32 = ((1024 : ℝ) : EReal) := by simp [Ideal.ofBits, Ideal.ieee]; rw [← EReal.coe_mul]; norm_num

/-- A natural number below 1024 as a word, read signed. -/
theorem toInt_ofNat (n : Nat) (h : n < 1024) : (BitVec.ofNat 32 n).toInt = n := by
  rw [BitVec.toInt_eq_toNat_of_lt (by rw [BitVec.toNat_ofNat]; omega), BitVec.toNat_ofNat]
  omega

/-- Rounding a natural number below 1024 to a word is the word. -/
theorem fptosi_nat (n : Nat) (h : n < 1024) : Ideal.fptosi 32 (((n : ℝ)) : EReal) = BitVec.ofNat 32 n := by
  have h1 : ⌊(n : ℝ)⌋ = (n : Int) := Int.floor_natCast n
  rw [Ideal.fptosi, Ideal.toIntClamped_coe, if_pos (Nat.cast_nonneg n), h1, min_eq_right (by norm_num; omega), max_eq_right (by norm_num)]
  exact BitVec.ofInt_natCast 32 n

end Cert.Dist

end
-- ==== Proof.Codes.lean ====
/-
  The TensorCore kernel's code numbers at the extended reals: the number it works out for a row is the first code nearest to that row.
-/
module

public import proofs.«01_k».proof.Proof.Body
public import proofs.«01_k».proof.Proof.Region
public import proofs.«01_k».proof.Proof.Dist
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.KernelIdeal.Codes

open Idealize.ShloMosaic Idealize.ShloMosaic.ValueIdx
open Cert.KernelIdeal Cert.KernelIdeal.Facts₀ Cert.KernelIdeal.Facts Cert.KernelIdeal.Body
open Cert.FirstMin Cert.Dist
open scoped BigOperators

variable [Cert.KernelIdeal.Facts]

/-- A row's least entry, as a fold over the row. -/
theorem rowMin_apply (d : FVec Ideal S8x512 .f32) (r : Fin 8) :
    rowMin d (ix2 r (0 : Fin 1)) = Finset.univ.fold min ⊤ (fun k : Fin 512 => d (ix2 r k)) := by
  unfold rowMin
  rw [shapeCast_apply _ _ (ix2 r (0 : Fin 1)) (ix1 r) (by
    rw [Shape.rowMajor_val_one, Shape.rowMajor_val_two]; show r.val = r.val * 1 + 0; omega)]
  have h : S8x512.Reduces [1] S8 := reduces_S8x512_S8
  refine (multiReduction_minimumf_eq_fold d _ h (.inl rfl) rfl (ix1 r)).trans ?_
  rw [h.fold_filter_drop_single]
  show Finset.univ.fold min (Ideal.ofBits .f32 0x7F800000#32) (d ∘ h.lift (ix1 r)) = _
  rw [ofBits_top]
  refine Finset.fold_congr fun k _ => congrArg d (funext fun a => Fin.ext ?_)
  rw [h.lift_val]
  match a with
  | ⟨0, _⟩ => rfl
  | ⟨1, _⟩ => rfl

/-- The code numbers of one half, as reals. -/
theorem nums_apply (r : Fin 8) (k : Fin 512) : (nums (F := Ideal)) (ix2 r k) = ((k.val : ℝ) : EReal) := by
  show ((((BitVec.ofNat 32 (0 * 512 + k.val)).toInt : ℝ)) : EReal) = _
  rw [toInt_ofNat _ (by have := k.isLt; omega)]
  simp

theorem bcol_apply (x : FVec Ideal S8x1 .f32) (r : Fin 8) (k : Fin 512) :
    broadcastTo S8x512 x broadcasts_S8x1_S8x512 (ix2 r k) = x (ix2 r (0 : Fin 1)) :=
  broadcastTo_apply x _ (ix2 r k) (ix2 r (0 : Fin 1)) fun a => by
    match a with
    | ⟨0, _⟩ => rfl
    | ⟨1, _⟩ => rfl

/-- The least number at which a row's least entry stands is the row's first least place. -/
theorem rowArg_apply (d : FVec Ideal S8x512 .f32) (r : Fin 8) : ∃ n : Fin 512, IsFirstMin (fun k => d (ix2 r k)) n
    ∧ rowMin d (ix2 r (0 : Fin 1)) = d (ix2 r n) ∧ rowArg d (ix2 r (0 : Fin 1)) = ((n.val : ℝ) : EReal) := by
  obtain ⟨n, h1, h2, h3⟩ := half (fun k => d (ix2 r k))
  refine ⟨n, h1, (rowMin_apply d r).trans h2, ?_⟩
  unfold rowArg
  rw [rowMin_apply, ← h3]
  refine Finset.fold_congr fun k _ => ?_
  rw [select_apply, nums_apply, cmpf_apply, bcol_apply, rowMin_apply]
  show Scalar.select (BitVec.ofBool (decide _)) _ (Ideal.ofBits .f32 0x44800000#32) = _
  rw [ofBits_1024]
  by_cases h : d (ix2 r k) = Finset.univ.fold min ⊤ (fun k : Fin 512 => d (ix2 r k))
  · rw [if_pos h, decide_eq_true h]; rfl
  · rw [if_neg h, decide_eq_false h]; rfl

/-- The choice between two halves is the first least place of both together. -/
theorem choose_apply (da db : FVec Ideal S8x512 .f32) (r : Fin 8) (f : Fin 1024 → EReal)
    (ha : ∀ k : Fin 512, da (ix2 r k) = f ⟨k.val, by omega⟩) (hb : ∀ k : Fin 512, db (ix2 r k) = f ⟨512 + k.val, by omega⟩) :
    ∃ n : Fin 1024, IsFirstMin f n ∧ choose da db (ix1 r) = BitVec.ofNat 32 n.val := by
  obtain ⟨a, a1, a2, a3⟩ := rowArg_apply da r
  obtain ⟨b, b1, b2, b3⟩ := rowArg_apply db r
  rw [funext ha] at a1
  rw [funext hb] at b1
  refine ⟨_, join f a b a1 b1, ?_⟩
  unfold choose
  show Ideal.fptosi 32 (shapeCast S8 _ _ (ix1 r)) = _
  rw [shapeCast_apply _ _ (ix1 r) (ix2 r (0 : Fin 1)) (by
    rw [Shape.rowMajor_val_one, Shape.rowMajor_val_two]; show r.val * 1 + 0 = r.val; omega)]
  rw [select_apply, cmpf_apply, addf_apply, a2, a3, b2, b3, ha, hb]
  show Ideal.fptosi 32 (Scalar.select (BitVec.ofBool (decide _)) _ (_ + Ideal.ofBits .f32 0x44000000#32)) = _
  rw [ofBits_512]
  have ha' := a.isLt
  have hb' := b.isLt
  by_cases h : f ⟨a.val, by omega⟩ ≤ f ⟨512 + b.val, by omega⟩
  · rw [if_pos h, decide_eq_true h]
    exact fptosi_nat _ (by omega)
  · rw [if_neg h, decide_eq_false h]
    show Ideal.fptosi 32 (((b.val : ℝ) : EReal) + ((512 : ℝ) : EReal)) = _
    rw [← EReal.coe_add, show (b.val : ℝ) + 512 = ((512 + b.val : Nat) : ℝ) by push_cast; ring]
    exact fptosi_nat _ (by omega)

/-- A sum over a row of a 1024×64 array. -/
theorem rowSum (x : FVec Ideal S1024x64 .f32) (i : Fin 1024) :
    multiReduction .add [1] S1024 x 0x00000000#32 reduces_S1024x64_S1024 (.inl rfl) rfl (ix1 i) = ∑ k : Fin 64, x (ix2 i k) := by
  refine (Ideal.multiReduction_add_single x _ reduces_S1024x64_S1024 (.inl rfl) rfl (ix1 i)).trans ?_
  refine Finset.sum_congr rfl fun k _ => congrArg x (funext fun a => Fin.ext ?_)
  rw [Shape.Reduces.lift_val]
  match a with
  | ⟨0, _⟩ => rfl
  | ⟨1, _⟩ => rfl

theorem rowSq_apply (z : FVec Ideal S1024x64 .f32) (i : Fin 1024) :
    rowSq z (ix2 i (0 : Fin 1)) = ∑ k : Fin 64, z (ix2 i k) * z (ix2 i k) := by
  unfold rowSq
  rw [shapeCast_apply _ _ (ix2 i (0 : Fin 1)) (ix1 i) (by
    rw [Shape.rowMajor_val_one, Shape.rowMajor_val_two]; show i.val = i.val * 1 + 0; omega), rowSum]
  rfl

theorem codeSq_apply (c : FVec Ideal S1024x64 .f32) (n : Fin 1024) :
    codeSq c (ix2 (0 : Fin 1) n) = ∑ k : Fin 64, c (ix2 n k) * c (ix2 n k) := by
  unfold codeSq
  rw [shapeCast_apply _ _ (ix2 (0 : Fin 1) n) (ix1 n) (by
    rw [Shape.rowMajor_val_one, Shape.rowMajor_val_two]; show n.val = 0 * 1024 + n.val; omega), rowSum]
  rfl

theorem prods_apply (z c : FVec Ideal S1024x64 .f32) (i n : Fin 1024) :
    prods z c (ix2 i n) = ∑ k : Fin 64, ((2 : ℝ) : EReal) * z (ix2 i k) * c (ix2 n k) := by
  unfold prods
  have e : dot_S1024x64_S1024x64_S1024x1024_1_1_0_0_n_n = DotDims.transposedRhs 1024 64 1024 := rfl
  show FloatOps.matmul dot_S1024x64_S1024x64_S1024x1024_1_1_0_0_n_n none _ c _ (ix2 i n) = _
  rw [e, Ideal.matmul_transposedRhs_apply]
  show Ideal.ofBits .f32 0x00000000#32 + ∑ k : Fin 64, Ideal.ofBits .f32 0x40000000#32 * z (ix2 i k) * c (ix2 n k) = _
  rw [Ideal.ofBits_zero_f32, ofBits_two, zero_add]

/-- The clipped squared distances of a block's row to the codes. -/
abbrev rowDists (z c : FVec Ideal S1024x64 .f32) (i : Fin 1024) : Fin 1024 → EReal :=
  fun n => sqDist (fun k => z (ix2 i k)) (fun k => c (ix2 n k))

/-- The distances of 8 rows to 512 codes, read at an index. -/
theorem dist_apply (x2 : FVec Ideal S8x1 .f32) (c2 : FVec Ideal S1x512 .f32) (s : FVec Ideal S8x512 .f32) (r : Fin 8) (k : Fin 512) :
    Body.dist x2 c2 s (ix2 r k) = max (x2 (ix2 r (0 : Fin 1)) + c2 (ix2 (0 : Fin 1) k) - s (ix2 r k)) 0 := by
  unfold Body.dist
  rw [maximumf_apply, subf_apply, addf_apply, bcol_apply, broadcastTo_1b_ab_apply]
  show max _ (Ideal.ofBits .f32 0x00000000#32) = _
  rw [Ideal.ofBits_zero_f32]

theorem distA_apply (z c : FVec Ideal S1024x64 .f32) (g : Fin 128) (r : Fin 8) (k : Fin 512) :
    distA z c g (ix2 r k) = rowDists z c ⟨8 * g.val + r.val, by omega⟩ ⟨k.val, by omega⟩ := by
  unfold distA
  rw [dist_apply,
    extractStridedSlice_apply _ _ _ (ix2 r (0 : Fin 1)) (ix2 (⟨8 * g.val + r.val, by omega⟩ : Fin 1024) (0 : Fin 1)) (fun a => by
      match a with
      | ⟨0, _⟩ => rfl
      | ⟨1, _⟩ => rfl),
    extractStridedSlice_apply _ _ _ (ix2 (0 : Fin 1) k) (ix2 (0 : Fin 1) (⟨k.val, by omega⟩ : Fin 1024)) (fun a => by
      match a with
      | ⟨0, _⟩ => rfl
      | ⟨1, _⟩ => show k.val = 0 + k.val; omega),
    extractStridedSlice_apply _ _ _ (ix2 r k) (ix2 (⟨8 * g.val + r.val, by omega⟩ : Fin 1024) (⟨k.val, by omega⟩ : Fin 1024)) (fun a => by
      match a with
      | ⟨0, _⟩ => rfl
      | ⟨1, _⟩ => show k.val = 0 + k.val; omega),
    rowSq_apply, codeSq_apply, prods_apply]
  rfl

theorem distB_apply (z c : FVec Ideal S1024x64 .f32) (g : Fin 128) (r : Fin 8) (k : Fin 512) :
    distB z c g (ix2 r k) = rowDists z c ⟨8 * g.val + r.val, by omega⟩ ⟨512 + k.val, by omega⟩ := by
  unfold distB
  rw [dist_apply,
    extractStridedSlice_apply _ _ _ (ix2 r (0 : Fin 1)) (ix2 (⟨8 * g.val + r.val, by omega⟩ : Fin 1024) (0 : Fin 1)) (fun a => by
      match a with
      | ⟨0, _⟩ => rfl
      | ⟨1, _⟩ => rfl),
    extractStridedSlice_apply _ _ _ (ix2 (0 : Fin 1) k) (ix2 (0 : Fin 1) (⟨512 + k.val, by omega⟩ : Fin 1024)) (fun a => by
      match a with
      | ⟨0, _⟩ => rfl
      | ⟨1, _⟩ => rfl),
    extractStridedSlice_apply _ _ _ (ix2 r k) (ix2 (⟨8 * g.val + r.val, by omega⟩ : Fin 1024) (⟨512 + k.val, by omega⟩ : Fin 1024)) (fun a => by
      match a with
      | ⟨0, _⟩ => rfl
      | ⟨1, _⟩ => rfl),
    rowSq_apply, codeSq_apply, prods_apply]
  rfl

/-- The number worked out for a block's row is the first code nearest to that row. -/
theorem blockIdx_apply (z c : FVec Ideal S1024x64 .f32) (i : Fin 1024) :
    ∃ n : Fin 1024, IsFirstMin (rowDists z c i) n ∧ blockIdx z c (ix1 i) = BitVec.ofNat 32 n.val := by
  have hi := i.isLt
  have hr : i.val % 8 < 8 := Nat.mod_lt _ (by decide)
  obtain ⟨n, hn, e⟩ := choose_apply (distA z c ⟨i.val / 8, by omega⟩) (distB z c ⟨i.val / 8, by omega⟩) ⟨i.val % 8, hr⟩ (rowDists z c i)
    (fun k => by rw [distA_apply]; congr 1; exact Fin.ext (by show 8 * (i.val / 8) + i.val % 8 = i.val; omega))
    (fun k => by rw [distB_apply]; congr 1; exact Fin.ext (by show 8 * (i.val / 8) + i.val % 8 = i.val; omega))
  refine ⟨n, hn, Eq.trans ?_ e⟩
  unfold blockIdx
  refine concatenate_ofFn_apply (t := S1024) (s₁ := S8) 0 (fun g => group z c g) _ rfl 8 rfl (ix1 i) ⟨i.val / 8, by omega⟩ rfl (ix1 ⟨i.val % 8, hr⟩) rfl fun b hb => ?_
  exact absurd (Fin.ext (by have := b.isLt; show b.val = 0; have h : b.val < 1 := b.isLt; omega)) hb

/-- The clipped squared distances of one of all the rows to the codes. -/
abbrev allDists (z : FVec Ideal S9216x64 .f32) (c : FVec Ideal S1024x64 .f32) (i : Fin 9216) : Fin 1024 → EReal :=
  fun n => sqDist (fun k => z (ix2 i k)) (fun k => c (ix2 n k))

/-- The number worked out for a row is the first code nearest to that row. -/
theorem codeNums_apply (z : FVec Ideal S9216x64 .f32) (c : FVec Ideal S1024x64 .f32) (i : Fin 9216) :
    ∃ n : Fin 1024, IsFirstMin (allDists z c i) n ∧ Run.codeNums (F := Ideal) z c (ix1 i) = BitVec.ofNat 32 n.val := by
  have hi := i.isLt
  obtain ⟨n, hn, e⟩ := blockIdx_apply (Run.rowsAt (F := Ideal) z ⟨i.val / 1024, by omega⟩) c ⟨i.val % 1024, Nat.mod_lt _ (by decide)⟩
  refine ⟨n, ?_, Eq.trans ?_ e⟩
  · have h : rowDists (Run.rowsAt (F := Ideal) z ⟨i.val / 1024, by omega⟩) c ⟨i.val % 1024, Nat.mod_lt _ (by decide)⟩ = allDists z c i := by
      funext m
      refine congrArg (fun v => sqDist v _) (funext fun k => congrArg z (funext fun a => Fin.ext ?_))
      match a with
      | ⟨0, _⟩ => show 1024 * (i.val / 1024) + i.val % 1024 = i.val; omega
      | ⟨1, _⟩ => rfl
    rwa [h] at hn
  · refine congrArg (blockIdx (F := Ideal) _ c) (funext fun a => ?_)
    match a with
    | ⟨0, _⟩ => rfl

end Cert.KernelIdeal.Codes

end
-- ==== Proof.Rows.lean ====
/-
  The rows that the SparseCore call reads, at numbers that name codes: the codes, once the padding columns are cut off.
-/
module

public import proofs.«01_k».proof.Proof.Codes
public import proofs.«01_k».proof.Proof.Launch

@[expose] public section

noncomputable section

namespace Cert.KernelIdeal.Codes

open Idealize.ShloMosaic Idealize.ShloMosaic.ValueIdx
open Cert.KernelIdeal Cert.KernelIdeal.Gen Cert.KernelIdeal.Run

variable {F : FTy → Type} [FloatOps F]

/-- The padded codebook's first 64 columns are the codebook. -/
theorem padded_apply (c : S1024x64.Idx → Elt F .f32) (n : Fin 1024) (k : Fin 64) :
    padded (F := F) c (ix2 n (⟨k.val, by omega⟩ : Fin 128)) = c (ix2 n k) := by
  unfold padded pad
  rw [dif_pos (fun a => by
    match a with
    | ⟨0, _⟩ => exact ⟨Nat.zero_le _, Nat.mod_one _, by show (n.val - 0) / 1 < 1024; have := n.isLt; omega⟩
    | ⟨1, _⟩ => exact ⟨Nat.zero_le _, Nat.mod_one _, by show (k.val - 0) / 1 < 64; have := k.isLt; omega⟩)]
  refine congrArg c (funext fun a => Fin.ext ?_)
  match a with
  | ⟨0, _⟩ => show (n.val - 0) / 1 = n.val; omega
  | ⟨1, _⟩ => show (k.val - 0) / 1 = k.val; omega

/-- The row read at a number that names a code is that code. -/
theorem rows_apply (c : S1024x64.Idx → Elt F .f32) (i : S9216.Idx → BitVec 32) (j : Fin 9216) (k : Fin 64) (n : Fin 1024)
    (hn : i (ix1 j) = BitVec.ofNat 32 n.val) :
    extractStridedSlice S9216x64 ![0, 0] (gathered i (padded (F := F) c)) slices_S9216x128_S9216x64_0_0 (ix2 j k) = c (ix2 n k) := by
  have hl := n.isLt
  have hi : ∀ y : S9216.Idx, y 0 = j → i y = BitVec.ofNat 32 n.val := fun y hy =>
    (congrArg i ((eq_ix1 y).trans (congrArg ix1 hy))).trans hn
  rw [extractStridedSlice_apply _ _ _ (ix2 j k) (ix2 j (⟨k.val, by omega⟩ : Fin 128)) (fun a => by
    match a with
    | ⟨0, _⟩ => show j.val = 0 + j.val; omega
    | ⟨1, _⟩ => show k.val = 0 + k.val; omega), ← padded_apply c n k]
  refine congrArg (padded (F := F) c) (funext fun a => Fin.ext ?_)
  match a with
  | ⟨0, _⟩ =>
    refine (srcIdx_zero i _).trans ?_
    refine (congrArg (fun w : BitVec 32 => w.toNat % 1024) (hi _ ?_)).trans ?_
    · rfl
    · show (BitVec.ofNat 32 n.val).toNat % 1024 = n.val
      rw [BitVec.toNat_ofNat]
      omega
  | ⟨1, _⟩ => exact congrArg Fin.val (srcIdx_one i _)

end Cert.KernelIdeal.Codes

end
-- ==== Proof.RefCodes.lean ====
/-
  The reference's code numbers at the extended reals: the number it works out for a row is the first code nearest to that row.
-/
module

public import proofs.«01_k».proof.Proof.Ref
public import proofs.«01_k».proof.Proof.Dist
public import Idealize.ShloMosaic.Lib.StackMember
public import Idealize.ShloMosaic.Lib.ValueIdx
public import Idealize.ShloMosaic.Lib.Pipeline.Value

@[expose] public section

noncomputable section

namespace Cert.ReferenceIdeal.Codes

open Idealize.ShloMosaic Idealize.ShloMosaic.ValueIdx
open Cert.ReferenceIdeal Cert.ReferenceIdeal.Gen Cert.ReferenceIdeal.Run
open Cert.FirstMin Cert.Dist
open scoped BigOperators

/-- The squared lengths of the rows, as the reference sums them. -/
theorem rowSum (x : FVec Ideal S9216x64 .f32) (i : Fin 9216) :
    Host.reduceAdd x (constant S_ .f32 0x00000000#32) reducesTo_S9216x64_S9216_d1 h_S_ (ix1 i) = ∑ k : Fin 64, x (ix2 i k) := by
  have h : S9216x64.Reduces [1] S9216 := by decide
  refine (Ideal.hostReduceAdd_single reducesTo_S9216x64_S9216_d1 h x (Ideal.ofBits .f32 0x00000000#32) (ix1 i)).trans ?_
  rw [Ideal.ofBits_zero_f32, zero_add]
  refine Finset.sum_congr rfl fun k _ => congrArg x (funext fun a => Fin.ext ?_)
  rw [Shape.Reduces.lift_val]
  match a with
  | ⟨0, _⟩ => rfl
  | ⟨1, _⟩ => rfl

/-- The squared lengths of the codes, as the reference sums them. -/
theorem codeSum (x : FVec Ideal S1024x64 .f32) (n : Fin 1024) :
    Host.reduceAdd x (constant S_ .f32 0x00000000#32) reducesTo_S1024x64_S1024_d1 h_S_ (ix1 n) = ∑ k : Fin 64, x (ix2 n k) := by
  have h : S1024x64.Reduces [1] S1024 := by decide
  refine (Ideal.hostReduceAdd_single reducesTo_S1024x64_S1024_d1 h x (Ideal.ofBits .f32 0x00000000#32) (ix1 n)).trans ?_
  rw [Ideal.ofBits_zero_f32, zero_add]
  refine Finset.sum_congr rfl fun k _ => congrArg x (funext fun a => Fin.ext ?_)
  rw [Shape.Reduces.lift_val]
  match a with
  | ⟨0, _⟩ => rfl
  | ⟨1, _⟩ => rfl

/-- The products of the rows with the codes. -/
theorem dot_apply (z : FVec Ideal S9216x64 .f32) (c : FVec Ideal S1024x64 .f32) (i : Fin 9216) (n : Fin 1024) :
    Host.dotGeneral dot_S9216x64_S64x1024_S9216x1024_1_0_0_1_n_n none z (transpose S64x1024 [1, 0] c transposes_S1024x64_S64x1024_1_0) (ix2 i n)
      = ∑ k : Fin 64, z (ix2 i k) * c (ix2 n k) := by
  have e : dot_S9216x64_S64x1024_S9216x1024_1_0_0_1_n_n = DotDims.plain 9216 64 1024 := rfl
  simp only [Host.dotGeneral]
  refine (Idealize.ShloMosaic.StackMember.dotGeneral_plain_apply none z _ i n).trans ?_
  refine Finset.sum_congr rfl fun k _ => congrArg (z (ix2 i k) * ·) ?_
  exact transpose_apply _ c _ (ix2 k n) (ix2 n k) fun b => by
    match b with
    | ⟨0, _⟩ => rfl
    | ⟨1, _⟩ => rfl

theorem sqrt_apply {s : Shape} (x : FVec Ideal s .f32) (i : s.Idx) : Host.sqrt x i = Ideal.sqrt (x i) := rfl

/-- The reference's squared distance before clipping. -/
theorem sqDists_apply (z : FVec Ideal S9216x64 .f32) (c : FVec Ideal S1024x64 .f32) (i : Fin 9216) (n : Fin 1024) :
    sqDists z c (ix2 i n) = (∑ k : Fin 64, z (ix2 i k) * z (ix2 i k)) + (∑ k : Fin 64, c (ix2 n k) * c (ix2 n k))
      - ∑ k : Fin 64, ((2 : ℝ) : EReal) * z (ix2 i k) * c (ix2 n k) := by
  unfold sqDists
  rw [subf_apply, addf_apply, mulf_apply, dot_apply,
    broadcastInDim_apply _ _ _ (ix2 i n) (ix2 i (0 : Fin 1)) (fun a => by
      match a with
      | ⟨0, _⟩ => rfl
      | ⟨1, _⟩ => rfl),
    broadcastInDim_apply _ _ _ (ix2 i (0 : Fin 1)) (ix1 i) (fun a => by
      match a with
      | ⟨0, _⟩ => rfl),
    broadcastInDim_apply _ _ _ (ix2 i n) (ix2 (0 : Fin 1) n) (fun a => by
      match a with
      | ⟨0, _⟩ => rfl
      | ⟨1, _⟩ => rfl),
    broadcastInDim_apply _ _ _ (ix2 (0 : Fin 1) n) (ix1 n) (fun a => by
      match a with
      | ⟨0, _⟩ => rfl),
    broadcastInDim_apply _ _ _ (ix2 i n) ix0 (fun a => a.elim0),
    constant_apply, ofBits_two, two_mul_sum (fun k => z (ix2 i k)) (fun k => c (ix2 n k)), rowSum, codeSum]
  simp only [mulf_apply]

/-- The reference's distance is the square root of the clipped squared distance. -/
theorem dists_apply (z : FVec Ideal S9216x64 .f32) (c : FVec Ideal S1024x64 .f32) (i : Fin 9216) (n : Fin 1024) :
    dists z c (ix2 i n) = Ideal.sqrt (sqDist (fun k => z (ix2 i k)) (fun k => c (ix2 n k))) := by
  unfold dists sqDist
  rw [sqrt_apply, maximumf_apply, sqDists_apply, broadcastInDim_apply _ _ _ (ix2 i n) ix0 (fun a => a.elim0), constant_apply, Ideal.ofBits_zero_f32, max_comm]

/-- The square root keeps and reflects the order of the extended reals that are not negative. -/
theorem sqrt_le (a b : EReal) (ha : 0 ≤ a) (hb : 0 ≤ b) : Ideal.sqrt a ≤ Ideal.sqrt b ↔ a ≤ b := by
  induction a with
  | bot => exact absurd ha (by simp)
  | top =>
    induction b with
    | bot => exact absurd hb (by simp)
    | top => simp
    | coe b =>
      have hb' : (0 : ℝ) ≤ b := by exact_mod_cast hb
      rw [Ideal.sqrt_coe, if_neg (not_lt.mpr hb'), Ideal.sqrt_top]
      simp
  | coe a =>
    have ha' : (0 : ℝ) ≤ a := by exact_mod_cast ha
    induction b with
    | bot => exact absurd hb (by simp)
    | top => rw [Ideal.sqrt_top]; simp
    | coe b =>
      have hb' : (0 : ℝ) ≤ b := by exact_mod_cast hb
      rw [Ideal.sqrt_coe, Ideal.sqrt_coe, if_neg (not_lt.mpr ha'), if_neg (not_lt.mpr hb'), EReal.coe_le_coe_iff, EReal.coe_le_coe_iff,
        Real.sqrt_le_sqrt_iff hb']

/-- The reference's reducer answers one of its two pairs, the one before the other. -/
theorem reducer (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have e : reducer_argmin_f32_i32 (F := Ideal) (x, i) (y, j)
      = if x < y ∨ (x = y ∧ i.slt j = true) then (x, i) else (y, j) := by
    simp only [reducer_argmin_f32_i32, Ideal.cmpf_def, Ideal.cmp, IntOp.cmpi, IntOp.ori, IntOp.andi, Scalar.select]
    rcases lt_trichotomy x y with h | rfl | h
    · simp [h, h.ne]
    · by_cases hij : i.slt j = true
      · simp [hij]
      · simp [hij]
    · simp [not_lt.mpr h.le, h.ne']
  rw [e]
  split_ifs with h
  · refine ⟨Or.inl rfl, Before.refl _, ?_⟩
    rcases h with h | ⟨h, hij⟩
    · exact Or.inl h
    · exact Or.inr ⟨h, (BitVec.slt_iff_toInt_lt.mp hij).le⟩
  · refine ⟨Or.inr rfl, ?_, Before.refl _⟩
    rcases lt_trichotomy x y with hlt | heq | hgt
    · exact absurd (Or.inl hlt) h
    · refine Or.inr ⟨heq.symm, ?_⟩
      by_contra hc
      exact h (Or.inr ⟨heq, BitVec.slt_iff_toInt_lt.mpr (not_le.mp hc)⟩)
    · exact Or.inl hgt

/-- The pairs that an arg-min over one axis looks at, for one index of its result: those along the axis. -/
theorem mem_fiber {s t : Shape} {a : Fin s.rank} (x : FVec Ideal s .f32) (y : IVec s 32) (h' : s.ReducesTo [a] t) (h : s.Reduces [a] t) (j : t.Idx)
    (p : EReal × BitVec 32) : p ∈ Host.argReduceFiber x y h' j ↔ ∃ k : Fin (s.size a), p = (x (h.lift j k), y (h.lift j k)) := by
  have e : ∀ i : s.Idx, h'.drop i = h.drop i := fun i => congrFun (Shape.ReducesTo.drop_eq_drop h' h) i
  unfold Host.argReduceFiber
  simp only [List.mem_map, List.mem_filter, List.mem_finRange, true_and]
  constructor
  · rintro ⟨n, hn, rfl⟩
    refine ⟨(s.rowMajor.symm n) a, ?_⟩
    rw [← of_decide_eq_true hn, e, h.lift_drop]
  · rintro ⟨k, rfl⟩
    refine ⟨s.rowMajor (h.lift j k), decide_eq_true ?_, by rw [Equiv.symm_apply_apply]⟩
    rw [Equiv.symm_apply_apply, e, h.drop_lift]

/-- An arg-min over one axis, by a reducer that answers the first of its two pairs, is the number of the first of all: the pair that it
    starts from and those along the axis. -/
theorem argNum_first {s t u : Shape} {a : Fin s.rank} (f : EReal × BitVec 32 → EReal × BitVec 32 → EReal × BitVec 32)
    (hf : ∀ p q, (f p q = p ∨ f p q = q) ∧ Before (f p q) p ∧ Before (f p q) q) (x : FVec Ideal s .f32) (y : IVec s 32)
    (ix : FVec Ideal u .f32) (iy : IVec u 32) (h' : s.ReducesTo [a] t) (h : s.Reduces [a] t) (hu : 0 < u.numel) (j : t.Idx) (p : EReal × BitVec 32)
    (hp : (ix (Shape.Idx.first hu), iy (Shape.Idx.first hu)) = p) :
    ∃ r : EReal × BitVec 32, argNum (F := Ideal) f x y ix iy h' hu j = r.2 ∧ (r = p ∨ ∃ k : Fin (s.size a), r = (x (h.lift j k), y (h.lift j k)))
      ∧ ∀ k : Fin (s.size a), Before r (x (h.lift j k), y (h.lift j k)) := by
  refine ⟨_, rfl, ?_⟩
  rw [Ideal.argReduce_eq_reduce2, Host.reduce2_eq_foldl_fiber, hp]
  obtain ⟨hm, -, hb⟩ := foldl_before f hf (Host.argReduceFiber x y h' j) p
  exact ⟨hm.imp_right (mem_fiber x y h' h j _).mp, fun k => hb _ ((mem_fiber x y h' h j _).mpr ⟨k, rfl⟩)⟩

/-- The arg-min of a row of extended reals is its first least place. -/
theorem argmins_apply (d : FVec Ideal S9216x1024 .f32) (i : Fin 9216) :
    ∃ n : Fin 1024, IsFirstMin (fun k : Fin 1024 => d (ix2 i k)) n ∧ argmins d (ix1 i) = BitVec.ofNat 32 n.val := by
  have h : S9216x1024.Reduces [1] S9216 := by decide
  have lift : ∀ k : Fin (S9216x1024.size 1), h.lift (ix1 i) k = (ix2 i (k : Fin 1024) : S9216x1024.Idx) := fun k => funext fun a => Fin.ext (by
    refine (h.lift_val (ix1 i) k a).trans ?_
    match a with
    | ⟨0, _⟩ => rfl
    | ⟨1, _⟩ => rfl)
  obtain ⟨r, hr, hm, hb⟩ := argNum_first (reducer_argmin_f32_i32 (F := Ideal)) reducer d (iotaInDim S9216x1024 32 1) (constant S_ .f32 0x7F800000#32)
    (constantI S_ 32 0#32) reducesTo_S9216x1024_S9216_d1 h h_S_ (ix1 i) (⊤, 0#32) (Prod.ext ofBits_top rfl)
  have num : ∀ k : Fin (S9216x1024.size 1), (d (h.lift (ix1 i) k), iotaInDim S9216x1024 32 1 (h.lift (ix1 i) k)) = (d (ix2 i (k : Fin 1024)), BitVec.ofNat 32 k.val) :=
    fun k => by rw [lift]; rfl
  obtain ⟨n, hn, e⟩ := pairs (fun k => d (ix2 i k)) r (hm.imp_right fun ⟨k, hk⟩ => ⟨k, hk.trans (num k)⟩) (fun k => (num k) ▸ hb k)
  exact ⟨n, hn, Eq.trans hr e⟩

/-- The number that the reference works out for a row is the first code nearest to that row. -/
theorem codes_apply (z : FVec Ideal S9216x64 .f32) (c : FVec Ideal S1024x64 .f32) (i : Fin 9216) :
    ∃ n : Fin 1024, IsFirstMin (fun n => sqDist (fun k => z (ix2 i k)) (fun k => c (ix2 n k))) n ∧ codes z c (ix1 i) = BitVec.ofNat 32 n.val := by
  obtain ⟨n, hn, e⟩ := argmins_apply (dists z c) i
  refine ⟨n, ?_, e⟩
  simp only [dists_apply] at hn
  exact hn.of_map Ideal.sqrt fun a b => sqrt_le _ _ (sqDist_nonneg _ _) (sqDist_nonneg _ _)

end Cert.ReferenceIdeal.Codes

end
-- ==== Proof.RefRows.lean ====
/-
  The rows that the reference reads: `jnp.take` at numbers that name codes.
-/
module

public import proofs.«01_k».proof.Proof.RefCodes
public import Idealize.ShloMosaic.Lib.Routing.Ops

@[expose] public section

noncomputable section

namespace Cert.ReferenceIdeal.Codes

open Idealize.ShloMosaic Idealize.ShloMosaic.ValueIdx
open Cert.ReferenceIdeal Cert.ReferenceIdeal.Gen Cert.ReferenceIdeal.Run
open Cert.Dist

/-- A number that names a code is not counted from the end. -/
theorem starts_apply (i : IVec S9216 32) (j : Fin 9216) (n : Fin 1024) (hn : i (ix1 j) = BitVec.ofNat 32 n.val) :
    starts i (ix2 j (0 : Fin 1)) = BitVec.ofNat 32 n.val := by
  unfold starts
  rw [broadcastInDim_apply _ _ _ (ix2 j (0 : Fin 1)) (ix1 j) (fun a => by
    match a with
    | ⟨0, _⟩ => rfl), select_apply]
  have h : cmpi .slt i (broadcastInDim S9216 ![] bcast_S_S9216 (constantI S_ 32 0#32)) (ix1 j) = 0#1 := by
    show BitVec.ofBool ((i (ix1 j)).slt 0#32) = 0#1
    rw [hn, BitVec.slt_eq_decide, toInt_ofNat _ n.isLt, decide_eq_false (by simp)]
    rfl
  rw [h, hn]
  rfl

/-- A number that names a code is in range. -/
theorem inRange_apply (s : IVec S9216x1 32) (j : Fin 9216) (n : Fin 1024) (hn : s (ix2 j (0 : Fin 1)) = BitVec.ofNat 32 n.val) :
    inRange s (ix1 j) = 1#1 := by
  have h : S9216x1.Reduces [1] S9216 := by decide
  unfold inRange
  rw [Host.reduce_eq_fold_single _ _ _ _ h]
  have lift : ∀ k : Fin (S9216x1.size 1), h.lift (ix1 j) k = (ix2 j (0 : Fin 1) : S9216x1.Idx) := fun k => funext fun a => Fin.ext (by
    refine (h.lift_val (ix1 j) k a).trans ?_
    have hk : k.val < 1 := k.isLt
    match a with
    | ⟨0, _⟩ => rfl
    | ⟨1, _⟩ => show k.val = 0; omega)
  have fold1 : ∀ g : Fin 1 → BitVec 1, Finset.univ.fold IntOp.andi 1#1 g = IntOp.andi (g 0) 1#1 := fun g => by
    rw [Finset.univ_unique, Finset.fold_singleton]; rfl
  refine (fold1 _).trans ?_
  have key : ∀ w : BitVec 32, w = BitVec.ofNat 32 n.val →
      IntOp.andi (IntOp.andi (BitVec.ofBool ((0#32).sle w)) (BitVec.ofBool (w.sle 1023#32))) 1#1 = 1#1 := fun w hw => by
    rw [hw, BitVec.sle_eq_decide, BitVec.sle_eq_decide, toInt_ofNat _ n.isLt, decide_eq_true (by simp), decide_eq_true (by
      have := n.isLt; show (n.val : Int) ≤ 1023; omega)]
    rfl
  exact key _ ((congrArg s (lift _)).trans hn)

/-- The row read at a number that names a code is that code. -/
theorem taken_apply (c : FVec Ideal S1024x64 .f32) (i : IVec S9216 32) (j : Fin 9216) (k : Fin 64) (n : Fin 1024)
    (hn : i (ix1 j) = BitVec.ofNat 32 n.val) : taken c i (ix2 j k) = c (ix2 n k) := by
  have hs := starts_apply i j n hn
  unfold taken
  rw [select_apply, broadcastInDim_apply _ _ _ (ix2 j k) (ix1 j) (fun a => by
    match a with
    | ⟨0, _⟩ => rfl), inRange_apply _ j n hs, select_one]
  exact Routing.gather_row gather_S1024x64_S9216x1_S9216x64_1_0_n_n_0_1_164 rfl rfl rfl rfl rfl c (starts i) j k n hs (by decide)

end Cert.ReferenceIdeal.Codes

end
-- ==== Proof.Equal.lean ====
/-
  The kernel's results and the reference's are the same arrays: the code numbers and the rows at every argument, the third result where the
  first argument is finite.
-/
module

public import proofs.«01_k».proof.Proof.Rows
public import proofs.«01_k».proof.Proof.RefRows
public import proofs.«01_k».proof.Proof.Gen.Pre_z_finite
public import Idealize.ShloMosaic.Lib.ReduceAll

@[expose] public section

noncomputable section

namespace Cert.Equal

open Idealize.ShloMosaic Idealize.ShloMosaic.ValueIdx
open Cert.KernelIdeal Cert.KernelIdeal.Gen
open Cert.Dist Cert.FirstMin

/-- The number that the kernel works out for a row, and that the reference does, name one and the same code. -/
theorem both (z : FVec Ideal S9216x64 .f32) (c : FVec Ideal S1024x64 .f32) (i : Fin 9216) :
    ∃ n : Fin 1024, KernelIdeal.Run.codeNums (F := Ideal) z c (ix1 i) = BitVec.ofNat 32 n.val
      ∧ ReferenceIdeal.Run.codes (F := Ideal) z c (ix1 i) = BitVec.ofNat 32 n.val := by
  obtain ⟨n, hn, e⟩ := KernelIdeal.Codes.codeNums_apply z c i
  obtain ⟨n', hn', e'⟩ := ReferenceIdeal.Codes.codes_apply z c i
  exact ⟨n, e, by rw [hn.unique hn']; exact e'⟩

/-- The code numbers are the same. -/
theorem codes_eq (z : FVec Ideal S9216x64 .f32) (c : FVec Ideal S1024x64 .f32) :
    KernelIdeal.Run.codeNums (F := Ideal) z c = ReferenceIdeal.Run.codes (F := Ideal) z c := by
  funext j
  obtain ⟨n, e, e'⟩ := both z c (j 0)
  rw [eq_ix1 j]
  exact e.trans e'.symm

/-- The kernel's code numbers name rows of the codebook. -/
theorem codes_lt (z : FVec Ideal S9216x64 .f32) (c : FVec Ideal S1024x64 .f32) (j : S9216.Idx) :
    (KernelIdeal.Run.codeNums (F := Ideal) z c j).toNat < 1024 := by
  obtain ⟨n, e, -⟩ := both z c (j 0)
  have h : KernelIdeal.Run.codeNums (F := Ideal) z c j = BitVec.ofNat 32 n.val := (congrArg _ (eq_ix1 j)).trans e
  rw [h, BitVec.toNat_ofNat]
  have := n.isLt
  omega

/-- The rows read at those numbers are the same. -/
theorem rows_eq (z : FVec Ideal S9216x64 .f32) (c : FVec Ideal S1024x64 .f32) :
    extractStridedSlice S9216x64 ![0, 0]
        (KernelIdeal.Run.gathered (KernelIdeal.Run.codeNums (F := Ideal) z c) (KernelIdeal.Run.padded (F := Ideal) c)) slices_S9216x128_S9216x64_0_0
      = ReferenceIdeal.Run.taken c (ReferenceIdeal.Run.codes (F := Ideal) z c) := by
  funext y
  obtain ⟨n, e, e'⟩ := both z c (y 0)
  rw [eq_ix2 y]
  exact (KernelIdeal.Codes.rows_apply (F := Ideal) c _ (y 0) (y 1) n e).trans (ReferenceIdeal.Codes.taken_apply c _ (y 0) (y 1) n e').symm

/-- Adding back what was taken off changes nothing where what was taken off is finite. -/
theorem add_sub_self (z q : EReal) (ht : z ≠ ⊤) (hb : z ≠ ⊥) : z + (q - z) = q := by
  lift z to ℝ using ⟨ht, hb⟩
  rw [add_comm, EReal.sub_add_cancel]

/-- Where the precondition holds, no entry of the first argument is infinite. -/
theorem finite (z : FVec Ideal S16x576x64 .f32) (c : FVec Ideal S1024x64 .f32)
    (h : Cert.Pre_z_finite.fn (F := Ideal) z c = fun _ => 1#1) (i : S16x576x64.Idx) : (z i : EReal) ≠ ⊤ ∧ (z i : EReal) ≠ ⊥ := by
  have hs : Subsingleton Cert.Pre_z_finite.S_.Idx := ⟨fun a b => funext fun k => k.elim0⟩
  have h1 := Host.reduce_andi_all _ _ _ _ _ (congrFun h (fun k => k.elim0)) i
  have h2 : Ideal.cmp .olt (max (z i : EReal) (-(z i : EReal))) (Ideal.ofBits .f32 0x7F800000#32) = 1#1 := h1
  rw [ofBits_top] at h2
  constructor <;> intro e <;> rw [e] at h2 <;> simp [Ideal.cmp] at h2

/-- Where the precondition holds, the reference's third result is its second. -/
theorem outSt_eq (z : FVec Ideal S16x576x64 .f32) (c : FVec Ideal S1024x64 .f32)
    (h : Cert.Pre_z_finite.fn (F := Ideal) z c = fun _ => 1#1) : ReferenceIdeal.Run.outSt z c = ReferenceIdeal.Run.outRows z c :=
  funext fun i => add_sub_self _ _ (finite z c h i).1 (finite z c h i).2

end Cert.Equal

end
-- ==== Proof.lean ====
/-
  The proof of the certificate: both programs run and leave the machine quiescent, and their three results are equal.
-/
module

public import proofs.«01_k».proof.Defs
public import proofs.«01_k».proof.Proof.Gen.KernelIdeal
public import proofs.«01_k».proof.Proof.Gen.ReferenceIdeal
public import proofs.«01_k».proof.Proof.Gen.Pre_z_finite
public import proofs.«01_k».proof.Proof.Launch
public import proofs.«01_k».proof.Proof.Ref
public import proofs.«01_k».proof.Proof.Equal
public import Idealize.ShloMosaic.Adequacy
public import Idealize.ShloMosaic.Init

@[expose] public section

noncomputable section

namespace Cert.Proof

open Idealize.ShloMosaic Idealize.SL.Sem

/-- The kernel's run, at extended reals: the results named in proof/Proof/Launch.lean, the arguments unchanged, every semaphore at zero. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (Cert.KernelIdeal.Run.QC m) :=
  Cert.KernelIdeal.Run.run_main m g fun _ j => Cert.Equal.codes_lt _ _ j

/-- The kernel runs, keeps its arguments and leaves the machine quiescent. -/
theorem kernel_frame : Cert.quiescent_KernelIdeal := fun m g _ =>
  (θ_run Cert.KernelIdeal.defs _ _).mono (fun _ h => ⟨fun c => (h.1 c).2.2, h.2⟩) (kernel_run m g)

/-- The reference runs, keeps its arguments and leaves the machine quiescent. -/
theorem reference_frame : Cert.quiescent_ReferenceIdeal := fun m g _ =>
  (θ_run Cert.ReferenceIdeal.defs _ _).mono (fun _ h => ⟨fun c => (h.1 c).2.2.2, h.2⟩) (Cert.ReferenceIdeal.Run.run_main (F := Ideal) m g)

/-- Where the first argument is finite, the kernel's three results are the reference's. -/
theorem equal : Cert.algebraic_KernelIdeal_ReferenceIdeal_pre_z_finite := fun m g m' g' hpre harg => by
  refine ⟨fun c => Cert.KernelIdeal.Run.outCodes m c, fun c => Cert.KernelIdeal.Run.outRows m c, fun c => Cert.KernelIdeal.Run.outRows m c, ?_, ?_⟩
  · exact (θ_run Cert.KernelIdeal.defs _ _).mono (fun _ h c => ⟨(h.1 c).1, (h.1 c).2.1, (h.1 c).2.1, (h.1 c).2.2⟩) (kernel_run m g)
  · refine (θ_run Cert.ReferenceIdeal.defs _ _).mono (fun r h c => ?_) (Cert.ReferenceIdeal.Run.run_main (F := Ideal) m' g')
    obtain ⟨h0, h1, h2, h3⟩ := h.1 c
    obtain ⟨a0, a1⟩ := harg c
    have rows : Cert.ReferenceIdeal.Run.outRows (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = Cert.KernelIdeal.Run.outRows m c :=
      (congrArg (shapeCast Cert.KernelIdeal.S16x576x64 · Cert.KernelIdeal.Gen.shapeCasts_S9216x64_S16x576x64) (Cert.Equal.rows_eq _ _)).symm
    refine ⟨h0.trans ?_, h1.trans ?_, h2.trans ?_, h3⟩
    · rw [a0, a1]
      exact (congrArg (shapeCast Cert.KernelIdeal.S16x576 · Cert.KernelIdeal.Gen.shapeCasts_S9216_S16x576) (Cert.Equal.codes_eq _ _)).symm
    · rw [a0, a1]
      exact rows
    · rw [a0, a1]
      exact (Cert.Equal.outSt_eq _ _ (hpre c)).trans rows

/-- Everything the certificate claims. A frame under the precondition is the frame without it. -/
theorem claim : Cert.Claim := ⟨Cert.KernelIdeal.Gen.facts, Cert.ReferenceIdeal.Gen.facts, Cert.Pre_z_finite.Gen.facts,
  kernel_frame, fun m g _ => kernel_frame m g trivial, reference_frame, fun m g _ => reference_frame m g trivial, equal⟩

end Cert.Proof

end
